-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x4096 : Shape := ⟨3, ![2, 4096, 4096]⟩
abbrev S16x4096 : Shape := ⟨2, ![16, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S2x4096x4096 .f32) (main_arg1 : FVec F S16x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S2x4096x4096 : Shape := ⟨3, ![2, 4096, 4096]⟩
abbrev S16x4096 : Shape := ⟨2, ![16, 4096]⟩
abbrev S8192x4096 : Shape := ⟨2, ![8192, 4096]⟩
abbrev S8192x16 : Shape := ⟨2, ![8192, 16]⟩
abbrev S8192x2 : Shape := ⟨2, ![8192, 2]⟩
abbrev S4096x16 : Shape := ⟨2, ![4096, 16]⟩
abbrev S4096x2 : Shape := ⟨2, ![4096, 2]⟩
abbrev S1 : Shape := ⟨1, ![1]⟩
abbrev S3 : Shape := ⟨1, ![3]⟩
abbrev S2x1024x4096 : Shape := ⟨3, ![2, 1024, 4096]⟩
abbrev S2 : Shape := ⟨1, ![2]⟩
abbrev S_ : Shape := ⟨0, ![]⟩
abbrev S1x1024x4096 : Shape := ⟨3, ![1, 1024, 4096]⟩
abbrev S1024x4096 : Shape := ⟨2, ![1024, 4096]⟩
abbrev S1024x16 : Shape := ⟨2, ![1024, 16]⟩
abbrev S1024 : Shape := ⟨1, ![1024]⟩
abbrev S1024x1 : Shape := ⟨2, ![1024, 1]⟩
abbrev S1024x2 : Shape := ⟨2, ![1024, 2]⟩

abbrev nBuf : Space → Nat
  | .hbm => 6
  | .vmem => 5
  | .smem => 1
  | _ => 0

abbrev bufTy : (tb : Table) → Fin (tcTables nBuf tb) → BufTy
  | .hbm, ⟨0, _⟩ => ⟨S2x4096x4096, .f32⟩
  | .hbm, ⟨1, _⟩ => ⟨S16x4096, .f32⟩
  | .hbm, ⟨2, _⟩ => ⟨S8192x4096, .f32⟩
  | .hbm, ⟨3, _⟩ => ⟨S8192x16, .f32⟩
  | .hbm, ⟨4, _⟩ => ⟨S8192x2, .f32⟩
  | .hbm, ⟨5, _⟩ => ⟨S8192x2, .i32⟩
  | .local _ .vmem, ⟨0, _⟩ => ⟨S4096x16, .f32⟩
  | .local _ .vmem, ⟨1, _⟩ => ⟨S4096x2, .f32⟩
  | .local _ .vmem, ⟨2, _⟩ => ⟨S4096x2, .i32⟩
  | .local _ .vmem, ⟨3, _⟩ => ⟨S2x1024x4096, .f32⟩
  | .local _ .vmem, ⟨4, _⟩ => ⟨S16x4096, .f32⟩
  | .local _ .smem, ⟨0, _⟩ => ⟨S1, .i32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scoped0 : Ref sig .tc := ⟨.vmem, 3, rfl⟩
abbrev cc0_scoped2 : Ref sig .tc := ⟨.vmem, 4, rfl⟩
abbrev cc0_scratch3 : Ref sig .tc := ⟨.smem, 0, rfl⟩

abbrev nD : Nat := 1
abbrev τ : Topo := Topo.v7x

variable {F : FTy → Type} [FloatOps F]

abbrev grid0 : Pipeline.Grid := ⟨1, ![2], ![false]⟩

def k0_off1 : Fin 1 → Nat :=
  let c0_i32_23_r0 : BitVec 32 := 0#32
  let c2_i32_24_r0 : BitVec 32 := 2#32
  let v36_r0 : BitVec 32 := Scalar.remui c0_i32_23_r0 c2_i32_24_r0
  ![v36_r0.toNat]
def k0_off2 : Fin 3 → Nat :=
  let c0_i32_23_r0 : BitVec 32 := 0#32
  let c2_i32_24_r0 : BitVec 32 := 2#32
  let v36_r0 : BitVec 32 := Scalar.remui c0_i32_23_r0 c2_i32_24_r0
  let c0_i32_25_r0 : BitVec 32 := 0#32
  let c0_i32_26_r0 : BitVec 32 := 0#32
  ![v36_r0.toNat, 0, 0]
def k0_off3 (i : grid0.Coords) : Fin 2 → Nat :=
  let c1024_i32_r0 : BitVec 32 := 1024#32
  let c0_i32_11_r0 : BitVec 32 := 0#32
  let arg0 : BitVec 32 := BitVec.ofNat 32 (i 0).val
  let c4_i32 : BitVec 32 := 4#32
  let v1 : BitVec 32 := Scalar.muli arg0 c4_i32
  let v22_r0 : BitVec 32 := Scalar.addi c0_i32_11_r0 v1
  let v37_r0 : BitVec 32 := Scalar.muli c1024_i32_r0 v22_r0
  let c0_i32_27_r0 : BitVec 32 := 0#32
  ![v37_r0.toNat, 0]
@[reducible] def k0_t1_loop : Scf.Loop 32 :=
  let c0_i32_34_r0 : BitVec 32 := 0#32
  let c4_i32_35_r0 : BitVec 32 := 4#32
  let v44_r0 : BitVec 32 := Scalar.addi c0_i32_34_r0 c4_i32_35_r0
  let c1_i32_36_r0 : BitVec 32 := 1#32
  ⟨c0_i32_34_r0, v44_r0, c1_i32_36_r0⟩
def k0_off4 (arg12_r0 : BitVec 32) : Fin 1 → Nat :=
  let c2_i32_109_r0 : BitVec 32 := 2#32
  let v181_r0 : BitVec 32 := Scalar.remui arg12_r0 c2_i32_109_r0
  ![v181_r0.toNat]
def k0_cond1 (i : grid0.Coords) (k0_t1 : Fin k0_t1_loop.trips) (arg15_r0 : BitVec 32) : BitVec 1 :=
  let arg0 : BitVec 32 := BitVec.ofNat 32 (i 0).val
  let c4_i32 : BitVec 32 := 4#32
  let v1 : BitVec 32 := Scalar.muli arg0 c4_i32
  let v68_r0 : BitVec 32 := Scalar.addi arg15_r0 v1
  let true_61_r0 : BitVec 1 := 1#1
  let c1_i32_60_r0 : BitVec 32 := 1#32
  let v74_r0 : BitVec 32 := Scalar.addi arg15_r0 c1_i32_60_r0
  let v75_r0 : BitVec 32 := Scalar.select true_61_r0 v74_r0 arg15_r0
  let c4_i32_62_r0 : BitVec 32 := 4#32
  let v76_r0 : BitVec 1 := Scalar.cmpi .eq v75_r0 c4_i32_62_r0
  let c0_i32_63_r0 : BitVec 32 := 0#32
  let v77_r0 : BitVec 32 := Scalar.select v76_r0 c0_i32_63_r0 v75_r0
  let v78_r0 : BitVec 32 := Scalar.addi v77_r0 v1
  let v84_r0 : BitVec 1 := Scalar.cmpi .ne v68_r0 v78_r0
  let c0_i32_34_r0 : BitVec 32 := 0#32
  let c1_i32_36_r0 : BitVec 32 := 1#32
  let arg11_r0 : BitVec 32 := Scf.iv c0_i32_34_r0 c1_i32_36_r0 k0_t1
  let c3_i32_68_r0 : BitVec 32 := 3#32
  let v85_r0 : BitVec 1 := Scalar.cmpi .sge arg11_r0 c3_i32_68_r0
  let true_69_r0 : BitVec 1 := 1#1
  let v86_r0 : BitVec 1 := Scalar.xori v85_r0 true_69_r0
  let v87_r0 : BitVec 1 := Scalar.andi v84_r0 v86_r0
  let true_70_r0 : BitVec 1 := 1#1
  let v88_r0 : BitVec 1 := Scalar.andi v87_r0 true_70_r0
  let v89_r0 : BitVec 32 := Scalar.extui v88_r0
  let c0_i32_71_r0 : BitVec 32 := 0#32
  let v90_r0 : BitVec 1 := Scalar.cmpi .ne v89_r0 c0_i32_71_r0
  v90_r0

def k0_off5 (arg12_r0 : BitVec 32) : Fin 3 → Nat :=
  let c2_i32_109_r0 : BitVec 32 := 2#32
  let v181_r0 : BitVec 32 := Scalar.remui arg12_r0 c2_i32_109_r0
  let c0_i32_111_r0 : BitVec 32 := 0#32
  let c0_i32_112_r0 : BitVec 32 := 0#32
  ![v181_r0.toNat, 0, 0]
def k0_off6 (i : grid0.Coords) (arg15_r0 : BitVec 32) : Fin 2 → Nat :=
  let c1024_i32_110_r0 : BitVec 32 := 1024#32
  let true_61_r0 : BitVec 1 := 1#1
  let c1_i32_60_r0 : BitVec 32 := 1#32
  let v74_r0 : BitVec 32 := Scalar.addi arg15_r0 c1_i32_60_r0
  let v75_r0 : BitVec 32 := Scalar.select true_61_r0 v74_r0 arg15_r0
  let c4_i32_62_r0 : BitVec 32 := 4#32
  let v76_r0 : BitVec 1 := Scalar.cmpi .eq v75_r0 c4_i32_62_r0
  let c0_i32_63_r0 : BitVec 32 := 0#32
  let v77_r0 : BitVec 32 := Scalar.select v76_r0 c0_i32_63_r0 v75_r0
  let arg0 : BitVec 32 := BitVec.ofNat 32 (i 0).val
  let c4_i32 : BitVec 32 := 4#32
  let v1 : BitVec 32 := Scalar.muli arg0 c4_i32
  let v78_r0 : BitVec 32 := Scalar.addi v77_r0 v1
  let v182_r0 : BitVec 32 := Scalar.muli c1024_i32_110_r0 v78_r0
  let c0_i32_113_r0 : BitVec 32 := 0#32
  ![v182_r0.toNat, 0]
def k0_off7 (arg13_r0 : BitVec 32) : Fin 1 → Nat :=
  let c2_i32_110_r0 : BitVec 32 := 2#32
  let v182_r0 : BitVec 32 := Scalar.remui arg13_r0 c2_i32_110_r0
  ![v182_r0.toNat]
def k0_cond2 (i : grid0.Coords) (k0_t1 : Fin k0_t1_loop.trips) (arg15_r0 : BitVec 32) : BitVec 1 :=
  let arg0 : BitVec 32 := BitVec.ofNat 32 (i 0).val
  let c4_i32 : BitVec 32 := 4#32
  let v1 : BitVec 32 := Scalar.muli arg0 c4_i32
  let v68_r0 : BitVec 32 := Scalar.addi arg15_r0 v1
  let true_57_r0 : BitVec 1 := 1#1
  let c1_i32_56_r0 : BitVec 32 := 1#32
  let v69_r0 : BitVec 32 := Scalar.subi arg15_r0 c1_i32_56_r0
  let v70_r0 : BitVec 32 := Scalar.select true_57_r0 v69_r0 arg15_r0
  let c_m1_i32_58_r0 : BitVec 32 := 4294967295#32
  let v71_r0 : BitVec 1 := Scalar.cmpi .eq v70_r0 c_m1_i32_58_r0
  let c3_i32_59_r0 : BitVec 32 := 3#32
  let v72_r0 : BitVec 32 := Scalar.select v71_r0 c3_i32_59_r0 v70_r0
  let v73_r0 : BitVec 32 := Scalar.addi v72_r0 v1
  let v94_r0 : BitVec 1 := Scalar.cmpi .ne v68_r0 v73_r0
  let c0_i32_34_r0 : BitVec 32 := 0#32
  let c1_i32_36_r0 : BitVec 32 := 1#32
  let arg11_r0 : BitVec 32 := Scf.iv c0_i32_34_r0 c1_i32_36_r0 k0_t1
  let c0_i32_54_r0 : BitVec 32 := 0#32
  let v66_r0 : BitVec 1 := Scalar.cmpi .eq arg11_r0 c0_i32_54_r0
  let v95_r0 : BitVec 1 := Scalar.ori v94_r0 v66_r0
  let c0_i32_74_r0 : BitVec 32 := 0#32
  let v96_r0 : BitVec 1 := Scalar.cmpi .sge arg11_r0 c0_i32_74_r0
  let v97_r0 : BitVec 1 := Scalar.andi v95_r0 v96_r0
  let v98_r0 : BitVec 32 := Scalar.extui v97_r0
  let c0_i32_75_r0 : BitVec 32 := 0#32
  let v99_r0 : BitVec 1 := Scalar.cmpi .ne v98_r0 c0_i32_75_r0
  v99_r0

def k0_off8 (arg13_r0 : BitVec 32) : Fin 3 → Nat :=
  let c2_i32_110_r0 : BitVec 32 := 2#32
  let v182_r0 : BitVec 32 := Scalar.remui arg13_r0 c2_i32_110_r0
  let c0_i32_111_r0 : BitVec 32 := 0#32
  let c0_i32_112_r0 : BitVec 32 := 0#32
  ![v182_r0.toNat, 0, 0]
def k0_off9 (i : grid0.Coords) (arg15_r0 : BitVec 32) : Fin 2 → Nat :=
  let c1024_i32_109_r0 : BitVec 32 := 1024#32
  let arg0 : BitVec 32 := BitVec.ofNat 32 (i 0).val
  let c4_i32 : BitVec 32 := 4#32
  let v1 : BitVec 32 := Scalar.muli arg0 c4_i32
  let v68_r0 : BitVec 32 := Scalar.addi arg15_r0 v1
  let v181_r0 : BitVec 32 := Scalar.muli c1024_i32_109_r0 v68_r0
  let c0_i32_113_r0 : BitVec 32 := 0#32
  ![v181_r0.toNat, 0]

def k0_chk1 (i : grid0.Coords) (k0_t1 : Fin k0_t1_loop.trips) (arg12_r0 : BitVec 32) (arg13_r0 : BitVec 32) (arg15_r0 : BitVec 32) : Prop :=
  (∀ (k0_h1 : k0_cond1 i k0_t1 arg15_r0 = 1#1), ∀ a, (k0_off4 arg12_r0) a + S1.size a ≤ S2.size a) ∧
  (∀ (k0_h1 : k0_cond1 i k0_t1 arg15_r0 = 1#1), ∀ a, (k0_off5 arg12_r0) a + S1x1024x4096.size a ≤ S2x1024x4096.size a) ∧
  (∀ (k0_h1 : k0_cond1 i k0_t1 arg15_r0 = 1#1), ∀ a, (k0_off6 i arg15_r0) a + S1024x4096.size a ≤ S8192x4096.size a) ∧
  (∀ (k0_h2 : k0_cond2 i k0_t1 arg15_r0 = 1#1), ∀ a, (k0_off7 arg13_r0) a + S1.size a ≤ S2.size a) ∧
  (∀ (k0_h2 : k0_cond2 i k0_t1 arg15_r0 = 1#1), ∀ a, (k0_off8 arg13_r0) a + S1x1024x4096.size a ≤ S2x1024x4096.size a) ∧
  (∀ (k0_h2 : k0_cond2 i k0_t1 arg15_r0 = 1#1), ∀ a, (k0_off9 i arg15_r0) a + S1024x4096.size a ≤ S8192x4096.size a)
theorem k0_off4_inb : ∀ (i : grid0.Coords) (k0_t1 : Fin k0_t1_loop.trips) (arg12_r0 : BitVec 32) (arg13_r0 : BitVec 32) (arg15_r0 : BitVec 32) (k0_hw1 : k0_chk1 i k0_t1 arg12_r0 arg13_r0 arg15_r0), ∀ (k0_h1 : k0_cond1 i k0_t1 arg15_r0 = 1#1), ∀ a, (k0_off4 arg12_r0) a + S1.size a ≤ S2.size a := fun i k0_t1 arg12_r0 arg13_r0 arg15_r0 k0_hw1 k0_h1 => k0_hw1.1 k0_h1
theorem k0_off5_inb : ∀ (i : grid0.Coords) (k0_t1 : Fin k0_t1_loop.trips) (arg12_r0 : BitVec 32) (arg13_r0 : BitVec 32) (arg15_r0 : BitVec 32) (k0_hw1 : k0_chk1 i k0_t1 arg12_r0 arg13_r0 arg15_r0), ∀ (k0_h1 : k0_cond1 i k0_t1 arg15_r0 = 1#1), ∀ a, (k0_off5 arg12_r0) a + S1x1024x4096.size a ≤ S2x1024x4096.size a := fun i k0_t1 arg12_r0 arg13_r0 arg15_r0 k0_hw1 k0_h1 => k0_hw1.2.1 k0_h1
theorem k0_off6_inb : ∀ (i : grid0.Coords) (k0_t1 : Fin k0_t1_loop.trips) (arg12_r0 : BitVec 32) (arg13_r0 : BitVec 32) (arg15_r0 : BitVec 32) (k0_hw1 : k0_chk1 i k0_t1 arg12_r0 arg13_r0 arg15_r0), ∀ (k0_h1 : k0_cond1 i k0_t1 arg15_r0 = 1#1), ∀ a, (k0_off6 i arg15_r0) a + S1024x4096.size a ≤ S8192x4096.size a := fun i k0_t1 arg12_r0 arg13_r0 arg15_r0 k0_hw1 k0_h1 => k0_hw1.2.2.1 k0_h1
theorem k0_off7_inb : ∀ (i : grid0.Coords) (k0_t1 : Fin k0_t1_loop.trips) (arg12_r0 : BitVec 32) (arg13_r0 : BitVec 32) (arg15_r0 : BitVec 32) (k0_hw1 : k0_chk1 i k0_t1 arg12_r0 arg13_r0 arg15_r0), ∀ (k0_h2 : k0_cond2 i k0_t1 arg15_r0 = 1#1), ∀ a, (k0_off7 arg13_r0) a + S1.size a ≤ S2.size a := fun i k0_t1 arg12_r0 arg13_r0 arg15_r0 k0_hw1 k0_h2 => k0_hw1.2.2.2.1 k0_h2
theorem k0_off8_inb : ∀ (i : grid0.Coords) (k0_t1 : Fin k0_t1_loop.trips) (arg12_r0 : BitVec 32) (arg13_r0 : BitVec 32) (arg15_r0 : BitVec 32) (k0_hw1 : k0_chk1 i k0_t1 arg12_r0 arg13_r0 arg15_r0), ∀ (k0_h2 : k0_cond2 i k0_t1 arg15_r0 = 1#1), ∀ a, (k0_off8 arg13_r0) a + S1x1024x4096.size a ≤ S2x1024x4096.size a := fun i k0_t1 arg12_r0 arg13_r0 arg15_r0 k0_hw1 k0_h2 => k0_hw1.2.2.2.2.1 k0_h2
theorem k0_off9_inb : ∀ (i : grid0.Coords) (k0_t1 : Fin k0_t1_loop.trips) (arg12_r0 : BitVec 32) (arg13_r0 : BitVec 32) (arg15_r0 : BitVec 32) (k0_hw1 : k0_chk1 i k0_t1 arg12_r0 arg13_r0 arg15_r0), ∀ (k0_h2 : k0_cond2 i k0_t1 arg15_r0 = 1#1), ∀ a, (k0_off9 i arg15_r0) a + S1024x4096.size a ≤ S8192x4096.size a := fun i k0_t1 arg12_r0 arg13_r0 arg15_r0 k0_hw1 k0_h2 => k0_hw1.2.2.2.2.2 k0_h2

def k0_off10 (arg13_r0 : BitVec 32) : Fin 3 → Nat :=
  let c2_i32_76_r0 : BitVec 32 := 2#32
  let v100_r0 : BitVec 32 := Scalar.remui arg13_r0 c2_i32_76_r0
  let v102_r0 : Index := Scalar.indexCast v100_r0
  let c0_78_r0 : Index := 0#32
  let c0_79_r0 : Index := 0#32
  ![v102_r0.toNat, 0, 0]

def k0_chk2 (arg13_r0 : BitVec 32) : Prop :=
  (∀ a, (k0_off10 arg13_r0) a + S1x1024x4096.size a ≤ S2x1024x4096.size a)
theorem k0_off10_inb : ∀ (arg13_r0 : BitVec 32) (k0_hw2 : k0_chk2 arg13_r0), ∀ a, (k0_off10 arg13_r0) a + S1x1024x4096.size a ≤ S2x1024x4096.size a := fun arg13_r0 k0_hw2 => k0_hw2

def k0_off11 (v101_r0 : BitVec 32) : Fin 2 → Nat :=
  let c1024_i32_84_r0 : BitVec 32 := 1024#32
  let v116_r0 : BitVec 32 := Scalar.muli v101_r0 c1024_i32_84_r0
  let v117_r0 : Index := Scalar.indexCast v116_r0
  let c0_85_r0 : Index := 0#32
  ![v117_r0.toNat, 0]

def k0_off12 (v101_r0 : BitVec 32) : Fin 2 → Nat :=
  let c1024_i32_92_r0 : BitVec 32 := 1024#32
  let v146_r0 : BitVec 32 := Scalar.muli v101_r0 c1024_i32_92_r0
  let v147_r0 : Index := Scalar.indexCast v146_r0
  let c0_93_r0 : Index := 0#32
  ![v147_r0.toNat, 0]

def k0_chk3 (v101_r0 : BitVec 32) : Prop :=
  (∀ a, (k0_off11 v101_r0) a + S1024x16.size a ≤ S4096x16.size a) ∧
  (∀ a, (k0_off12 v101_r0) a + S1024x2.size a ≤ S4096x2.size a)
theorem k0_off11_inb : ∀ (v101_r0 : BitVec 32) (k0_hw3 : k0_chk3 v101_r0), ∀ a, (k0_off11 v101_r0) a + S1024x16.size a ≤ S4096x16.size a := fun v101_r0 k0_hw3 => k0_hw3.1
theorem k0_off12_inb : ∀ (v101_r0 : BitVec 32) (k0_hw3 : k0_chk3 v101_r0), ∀ a, (k0_off12 v101_r0) a + S1024x2.size a ≤ S4096x2.size a := fun v101_r0 k0_hw3 => k0_hw3.2

def k0_off13 (i : grid0.Coords) : Fin 2 → Nat :=
  let arg0 : BitVec 32 := BitVec.ofNat 32 (i 0).val
  let c4096_i32 : BitVec 32 := 4096#32
  let v2 : BitVec 32 := Scalar.muli arg0 c4096_i32
  let c0_i32_1 : BitVec 32 := 0#32
  ![v2.toNat, 0]
def k0_off14 (i : grid0.Coords) : Fin 2 → Nat :=
  let arg0 : BitVec 32 := BitVec.ofNat 32 (i 0).val
  let c4096_i32 : BitVec 32 := 4096#32
  let v2 : BitVec 32 := Scalar.muli arg0 c4096_i32
  let c0_i32_2 : BitVec 32 := 0#32
  ![v2.toNat, 0]
-- ==== ReferenceIdeal.lean ====
abbrev S2x4096x4096 : Shape := ⟨3, ![2, 4096, 4096]⟩
abbrev S16x4096 : Shape := ⟨2, ![16, 4096]⟩
abbrev S8192x4096 : Shape := ⟨2, ![8192, 4096]⟩
abbrev S4096x16 : Shape := ⟨2, ![4096, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S16x4096, .f32⟩
  | .hbm, ⟨2, _⟩ => ⟨S8192x4096, .f32⟩
  | .hbm, ⟨3, _⟩ => ⟨S4096x16, .f32⟩
  | .hbm, ⟨4, _⟩ => ⟨S8192x16, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S8192x2, .f32⟩
  | .hbm, ⟨20, _⟩ => ⟨S8192x2, .i32⟩
  | .hbm, ⟨21, _⟩ => ⟨S8192x2, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x2, .f32⟩
  | .hbm, ⟨26, _⟩ => ⟨S8192x2, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Names.lean ====
/-
  NAMES AND WORDS. The slices the kernel's pipeline takes — the two slots of its input buffer, their two
  semaphores, the eight row blocks of the tokens — under one name each, and the closed form of every word the
  pipeline computes: which block it fetches, which slot it uses, whether a trip fetches and whether it waits.
  Core `n` of the two handles blocks `4 n, …, 4 n + 3`; before trip `k` block `k` of the core is on its way into
  slot `k % 2`.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.Sem

/-! ## The pieces under one name each -/

/-- The tokens, one row each. -/
abbrev xM : Memref sig .tc .hbm S8192x4096 .f32 := Memref.whole main_v0
/-- The input buffer: two slots of 1024 rows. -/
abbrev bufM : Memref sig .tc .vmem S2x1024x4096 .f32 := Memref.whole cc0_scoped0

/-- Where block `b` of core `i` starts. -/
abbrev blkOff (i : grid0.Coords) (b : Fin 4) : Fin 2 → Nat := ![1024 * (4 * (i 0).val + b.val), 0]
theorem blkOff_inb (i : grid0.Coords) (b : Fin 4) : ∀ a, blkOff i b a + S1024x4096.size a ≤ S8192x4096.size a := by
  have h1 : (i 0).val < 2 := (i 0).isLt
  have h2 := b.isLt
  intro a; fin_cases a
  · show 1024 * (4 * (i 0).val + b.val) + 1024 ≤ 8192; omega
  · show 0 + 4096 ≤ 4096; omega
/-- Where slot `s` starts. -/
abbrev slotOff (s : Fin 2) : Fin 3 → Nat := ![s.val, 0, 0]
theorem slotOff_inb (s : Fin 2) : ∀ a, slotOff s a + S1x1024x4096.size a ≤ S2x1024x4096.size a := by
  have := s.isLt; intro a; fin_cases a
  · show s.val + 1 ≤ 2; omega
  · show 0 + 1024 ≤ 1024; omega
  · show 0 + 4096 ≤ 4096; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of core `i`: 1024 rows of the tokens. -/
def xblk (i : grid0.Coords) (b : Fin 4) : Memref sig .tc .hbm S1024x4096 .f32 :=
  xM.slice (Rect.unit (s := S8192x4096) (blkOff i b) S1024x4096.size (blkOff_inb i b)) (fun _ => rfl)
/-- Slot `s` of the input buffer. -/
def rslot (s : Fin 2) : Memref sig .tc .vmem S1024x4096 .f32 :=
  (bufM.slice (Rect.unit (s := S2x1024x4096) (slotOff s) S1x1024x4096.size (slotOff_inb s)) (fun _ => rfl)).squeeze S1024x4096 squeezes_S1x1024x4096_S1024x4096
/-- Slot `s`'s semaphore. -/
def csm (s : Fin 2) : DmaSems sig S_ := (cc0_scoped1.slice (Rect.unit (s := S2) (semOff s) S1.size (semOff_inb s))).squeeze S_ squeezes_S1_S_

instance (s : Fin 2) : ClosedOff (slotOff s) := ⟨slotOff s, rfl⟩
instance (i : grid0.Coords) (b : Fin 4) : ClosedOff (blkOff i b) := ⟨blkOff i b, rfl⟩

/-! ## The words a trip computes -/

theorem trips_eq : k0_t1_loop.trips = 4 := by decide
theorem trip_lt (k : Fin k0_t1_loop.trips) : k.val < 4 := Nat.lt_of_lt_of_eq k.isLt trips_eq

/-- Trip `k` fetches the next block exactly when there is one. -/
theorem cond1_yes (i : grid0.Coords) (k : Fin k0_t1_loop.trips) (h : k.val + 1 < 4) :
    k0_cond1 i k (BitVec.ofNat 32 k.val) = 1#1 := by
  have h2 : (i 0).val < 2 := (i 0).isLt
  unfold k0_cond1
  obtain ⟨kv, hk⟩ := k
  generalize (i 0).val = n at *
  dsimp only at h ⊢
  have h3 : kv < 3 := by omega
  clear h
  interval_cases n <;> interval_cases kv <;> rfl
theorem cond1_no (i : grid0.Coords) (k : Fin k0_t1_loop.trips) (h : ¬ k.val + 1 < 4) :
    ¬ k0_cond1 i k (BitVec.ofNat 32 k.val) = 1#1 := by
  have h2 : (i 0).val < 2 := (i 0).isLt
  have hk4 := trip_lt k
  unfold k0_cond1
  obtain ⟨kv, hk⟩ := k
  generalize (i 0).val = n at *
  dsimp only at h hk4 ⊢
  obtain rfl : kv = 3 := by omega
  interval_cases n <;> decide
/-- Every trip waits for its block. -/
theorem cond2_yes (i : grid0.Coords) (k : Fin k0_t1_loop.trips) : k0_cond2 i k (BitVec.ofNat 32 k.val) = 1#1 := by
  have h2 : (i 0).val < 2 := (i 0).isLt
  have hk4 := trip_lt k
  unfold k0_cond2
  obtain ⟨kv, hk⟩ := k
  generalize (i 0).val = n at *
  dsimp only at hk4 ⊢
  interval_cases n <;> interval_cases kv <;> rfl

theorem off1_eq : k0_off1 = semOff 0 := by decide
theorem off2_eq : k0_off2 = slotOff 0 := by decide
theorem off3_eq (i : grid0.Coords) : k0_off3 i = blkOff i 0 := by
  have h2 : (i 0).val < 2 := (i 0).isLt
  unfold k0_off3 blkOff
  generalize (i 0).val = n at *
  interval_cases n <;> decide
theorem off4_eq (k : ℕ) (h : k < 2 ^ 32) : k0_off4 (BitVec.ofNat 32 k) = semOff (Ring.sl 2 k) :=
  congrArg (fun n => ![n]) (Ring.remui_ofNat_eq_sl k 2 h (by decide))
theorem off5_eq (k : ℕ) (h : k < 2 ^ 32) : k0_off5 (BitVec.ofNat 32 k) = slotOff (Ring.sl 2 k) :=
  congrArg (fun n => ![n, 0, 0]) (Ring.remui_ofNat_eq_sl k 2 h (by decide))
theorem off7_eq (k : ℕ) (h : k < 2 ^ 32) : k0_off7 (BitVec.ofNat 32 k) = semOff (Ring.sl 2 k) :=
  congrArg (fun n => ![n]) (Ring.remui_ofNat_eq_sl k 2 h (by decide))
theorem off8_eq (k : ℕ) (h : k < 2 ^ 32) : k0_off8 (BitVec.ofNat 32 k) = slotOff (Ring.sl 2 k) :=
  congrArg (fun n => ![n, 0, 0]) (Ring.remui_ofNat_eq_sl k 2 h (by decide))
theorem off10_eq (k : ℕ) (h : k < 2 ^ 32) : k0_off10 (BitVec.ofNat 32 k) = slotOff (Ring.sl 2 k) :=
  congrArg (fun n => ![n, 0, 0]) (Ring.remui_ofNat_eq_sl k 2 h (by decide))
theorem off6_eq (i : grid0.Coords) (k : ℕ) (h : k + 1 < 4) : k0_off6 i (BitVec.ofNat 32 k) = blkOff i (Ring.bk 4 (k + 1)) := by
  have h2 : (i 0).val < 2 := (i 0).isLt
  unfold k0_off6 blkOff
  generalize (i 0).val = n at *
  have hk : k < 3 := by omega
  interval_cases n <;> interval_cases k <;> decide
theorem off9_eq (i : grid0.Coords) (k : ℕ) (h : k < 4) : k0_off9 i (BitVec.ofNat 32 k) = blkOff i (Ring.bk 4 k) := by
  have h2 : (i 0).val < 2 := (i 0).isLt
  unfold k0_off9 blkOff
  generalize (i 0).val = n at *
  interval_cases n <;> interval_cases k <;> decide
/-- Block `k`'s rows of the three result buffers. -/
theorem off11_eq (k : ℕ) (h : k < 4) : k0_off11 (BitVec.ofNat 32 k) = ![1024 * k, 0] := by
  interval_cases k <;> decide
theorem off12_eq (k : ℕ) (h : k < 4) : k0_off12 (BitVec.ofNat 32 k) = ![1024 * k, 0] := by
  interval_cases k <;> decide
theorem off13_eq (i : grid0.Coords) : k0_off13 i = ![4096 * (i 0).val, 0] := by
  have h2 : (i 0).val < 2 := (i 0).isLt
  unfold k0_off13
  generalize (i 0).val = n at *
  interval_cases n <;> decide
theorem off14_eq (i : grid0.Coords) : k0_off14 i = ![4096 * (i 0).val, 0] := by
  have h2 : (i 0).val < 2 := (i 0).isLt
  unfold k0_off14
  generalize (i 0).val = n at *
  interval_cases n <;> decide

/-- The three side conditions hold at the words of trip `k`. -/
theorem chk1_ok (i : grid0.Coords) (k : Fin k0_t1_loop.trips) :
    k0_chk1 i k (BitVec.ofNat 32 (k.val + 1)) (BitVec.ofNat 32 k.val) (BitVec.ofNat 32 k.val) := by
  have hk := trip_lt k
  refine ⟨fun _ => ?_, fun _ => ?_, fun h1 => ?_, fun _ => ?_, fun _ => ?_, fun _ => ?_⟩
  · rw [off4_eq _ (by omega)]; exact semOff_inb _
  · rw [off5_eq _ (by omega)]; exact slotOff_inb _
  · rw [off6_eq i _ (by by_contra hn; exact cond1_no i k hn h1)]; exact blkOff_inb i _
  · rw [off7_eq _ (by omega)]; exact semOff_inb _
  · rw [off8_eq _ (by omega)]; exact slotOff_inb _
  · rw [off9_eq i _ hk]; exact blkOff_inb i _
theorem chk2_ok (k : Fin k0_t1_loop.trips) : k0_chk2 (BitVec.ofNat 32 k.val) := by
  have hk := trip_lt k
  unfold k0_chk2
  rw [off10_eq _ (by omega)]; exact slotOff_inb _
theorem chk3_ok (k : ℕ) (h : k < 4) : k0_chk3 (BitVec.ofNat 32 k) := by
  interval_cases k <;> decide

instance (k : ℕ) [h : Fact (k < 4)] : ClosedOff (k0_off10 (BitVec.ofNat 32 k)) :=
  ⟨slotOff (Ring.sl 2 k), off10_eq k (by have := h.out; omega)⟩
instance (k : Fin k0_t1_loop.trips) : ClosedOff (k0_off10 (BitVec.ofNat 32 k.val)) :=
  ⟨slotOff (Ring.sl 2 k.val), off10_eq _ (by have := trip_lt k; omega)⟩

/-! ## The program's slices are those names -/

private theorem csm_congr {off : Fin 1 → Nat} {s : Fin 2} (e : off = semOff s) (hh) :
    (cc0_scoped1.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x1024x4096) off S1x1024x4096.size hh) hs).squeeze S1024x4096 squeezes_S1x1024x4096_S1024x4096 = rslot s :=
  congrArg (fun M : Memref sig .tc .vmem S1x1024x4096 .f32 => M.squeeze S1024x4096 squeezes_S1x1024x4096_S1024x4096) (Memref.slice_unit_congr _ e _ _ _ _)
private theorem xblk_congr {off : Fin 2 → Nat} {i : grid0.Coords} {b : Fin 4} (e : off = blkOff i b) (hh hs) :
    xM.slice (Rect.unit (s := S8192x4096) off S1024x4096.size hh) hs = xblk i b :=
  Memref.slice_unit_congr _ e _ _ _ (fun _ => rfl)

@[sl_canon] theorem semP (hh) : (cc0_scoped1.slice (Rect.unit (s := S2) k0_off1 S1.size hh)).squeeze S_ squeezes_S1_S_ = csm 0 := csm_congr off1_eq _
@[sl_canon] theorem slotP0 (hh hs) : (bufM.slice (Rect.unit (s := S2x1024x4096) k0_off2 S1x1024x4096.size hh) hs).squeeze S1024x4096 squeezes_S1x1024x4096_S1024x4096 = rslot 0 := rslot_congr off2_eq _ _
@[sl_canon] theorem blkP (i : grid0.Coords) (hh hs) : xM.slice (Rect.unit (s := S8192x4096) (k0_off3 i) S1024x4096.size hh) hs = xblk i 0 := xblk_congr (off3_eq i) _ _

@[sl_canon] theorem semI (k : Fin k0_t1_loop.trips) (hh) :
    (cc0_scoped1.slice (Rect.unit (s := S2) (k0_off4 (BitVec.ofNat 32 (k.val + 1))) S1.size hh)).squeeze S_ squeezes_S1_S_ = csm (Ring.sl 2 (k.val + 1)) :=
  csm_congr (off4_eq _ (by have := trip_lt k; omega)) _
@[sl_canon] theorem slotI (k : Fin k0_t1_loop.trips) (hh hs) :
    (bufM.slice (Rect.unit (s := S2x1024x4096) (k0_off5 (BitVec.ofNat 32 (k.val + 1))) S1x1024x4096.size hh) hs).squeeze S1024x4096 squeezes_S1x1024x4096_S1024x4096 = rslot (Ring.sl 2 (k.val + 1)) :=
  rslot_congr (off5_eq _ (by have := trip_lt k; omega)) _ _
@[sl_canon] theorem blkI (i : grid0.Coords) (k : Fin k0_t1_loop.trips) (h : k.val + 1 < 4) (hh hs) :
    xM.slice (Rect.unit (s := S8192x4096) (k0_off6 i (BitVec.ofNat 32 k.val)) S1024x4096.size hh) hs = xblk i (Ring.bk 4 (k.val + 1)) :=
  xblk_congr (off6_eq i _ h) _ _
@[sl_canon] theorem semW (k : Fin k0_t1_loop.trips) (hh) :
    (cc0_scoped1.slice (Rect.unit (s := S2) (k0_off7 (BitVec.ofNat 32 k.val)) S1.size hh)).squeeze S_ squeezes_S1_S_ = csm (Ring.sl 2 k.val) :=
  csm_congr (off7_eq _ (by have := trip_lt k; omega)) _
@[sl_canon] theorem slotW (k : Fin k0_t1_loop.trips) (hh hs) :
    (bufM.slice (Rect.unit (s := S2x1024x4096) (k0_off8 (BitVec.ofNat 32 k.val)) S1x1024x4096.size hh) hs).squeeze S1024x4096 squeezes_S1x1024x4096_S1024x4096 = rslot (Ring.sl 2 k.val) :=
  rslot_congr (off8_eq _ (by have := trip_lt k; omega)) _ _
@[sl_canon] theorem blkW (i : grid0.Coords) (k : Fin k0_t1_loop.trips) (hh hs) :
    xM.slice (Rect.unit (s := S8192x4096) (k0_off9 i (BitVec.ofNat 32 k.val)) S1024x4096.size hh) hs = xblk i (Ring.bk 4 k.val) :=
  xblk_congr (off9_eq i _ (trip_lt k)) _ _

end Cert.Proof.Run

end
-- ==== Proof.Blocks.lean ====
/-
  WHAT THE KERNEL LEAVES, BLOCK BY BLOCK. The rows of the three results are computed 1024 at a time from one block
  of the tokens and the whole of the weights; `out0`, `out1`, `out2` are the whole results in those words. The
  second half says how far a buffer has been filled (`Filled`) and how one block's store carries that on.
-/
module

public import proofs.«01_k».proof.Proof.Names
public import Idealize.ShloMosaic.Lib.WritesUnit
public import Idealize.ShloMosaic.Lib.ValueIdx
public import Idealize.ShloMosaic.Lib.Pipeline.Value

@[expose] public section

noncomputable section

namespace Cert.Proof.Run

open Cert.KernelIdeal Cert.KernelIdeal.Gen
open Idealize.ShloMosaic Idealize.ShloMosaic.ValueIdx

variable {F : FTy → Type} [FloatOps F]

/-- Block `b` of the tokens: rows `1024 b, …, 1024 b + 1023`. -/
def blkRows (X : S8192x4096.Idx → Elt F .f32) (b : Fin 8) : S1024x4096.Idx → Elt F .f32 :=
  fun y => X (ix2 ⟨1024 * b.val + (y 0).val, by have h : (y 0).val < 1024 := (y 0).isLt; have := b.isLt; omega⟩ (y 1))

/-- That block as the kernel loads it. -/
def tile (X : S8192x4096.Idx → Elt F .f32) (b : Fin 8) : S1x1024x4096.Idx → Elt F .f32 :=
  shapeCast S1x1024x4096 (blkRows X b) (by decide)

/-- The block a row of a result lies in. -/
abbrev blkOf {n : ℕ} (y : (⟨2, ![8192, n]⟩ : Shape).Idx) : Fin 8 :=
  ⟨(y 0).val / 1024, by have h : (y 0).val < 8192 := (y 0).isLt; omega⟩
/-- Its place in that block. -/
abbrev inBlk {n : ℕ} (y : (⟨2, ![8192, n]⟩ : Shape).Idx) : (⟨2, ![1024, n]⟩ : Shape).Idx :=
  ix2 ⟨(y 0).val % 1024, Nat.mod_lt _ (by decide)⟩ (y 1)

/-- A whole result from its blocks. -/
def glue {n : ℕ} {α : Type} (G : Fin 8 → (⟨2, ![1024, n]⟩ : Shape).Idx → α) : (⟨2, ![8192, n]⟩ : Shape).Idx → α :=
  fun y => G (blkOf y) (inBlk y)

section Out
variable (X : S8192x4096.Idx → Elt F .f32) (W : S16x4096.Idx → Elt F .f32)

/-- The routing weights of one block. -/
abbrev pay0 (b : Fin 8) : S1024x16.Idx → Elt F .f32 := k0_pay2 (tile X b) W
/-- The two greatest weights of one block's rows, made to sum to one. -/
abbrev pay1 (b : Fin 8) : S1024x2.Idx → Elt F .f32 := k0_pay8 (k0_pay3 (tile X b) W) (k0_pay6 (tile X b) W)
/-- The experts they belong to. -/
abbrev pay2 (b : Fin 8) : S1024x2.Idx → Elt F .i32 := k0_pay9 (k0_pay4 (tile X b) W) (k0_pay7 (tile X b) W)

def out0 : S8192x16.Idx → Elt F .f32 := glue (pay0 X W)
def out1 : S8192x2.Idx → Elt F .f32 := glue (pay1 X W)
def out2 : S8192x2.Idx → Elt F .i32 := glue (pay2 X W)
end Out

/-! ## How far a buffer is filled -/

/-- The first `r` rows of a core's share `f` hold core `p`'s rows of `G`. -/
def Filled {n : ℕ} {α : Type} (p : Fin 2) (r : ℕ) (G : (⟨2, ![8192, n]⟩ : Shape).Idx → α) (f : (⟨2, ![4096, n]⟩ : Shape).Idx → α) : Prop :=
  ∀ (a : Fin 4096) (b : Fin n), a.val < r → f (ix2 a b) = G (ix2 ⟨4096 * p.val + a.val, by have := p.isLt; have := a.isLt; omega⟩ b)

/-- The first `4096 t` rows of a result `f` hold those of `G`. -/
def Done {n : ℕ} {α : Type} (t : ℕ) (G f : (⟨2, ![8192, n]⟩ : Shape).Idx → α) : Prop :=
  ∀ y : (⟨2, ![8192, n]⟩ : Shape).Idx, (y 0).val < 4096 * t → f y = G y

theorem filled_zero {n : ℕ} {α : Type} (p : Fin 2) (G) (f : (⟨2, ![4096, n]⟩ : Shape).Idx → α) : Filled p (1024 * 0) G f :=
  fun a b h => absurd h (Nat.not_lt_zero _)

theorem done_zero {n : ℕ} {α : Type} (G f : (⟨2, ![8192, n]⟩ : Shape).Idx → α) : Done 0 G f :=
  fun y h => absurd h (by simp)

theorem done_all {n : ℕ} {α : Type} {G f : (⟨2, ![8192, n]⟩ : Shape).Idx → α} (h : Done 2 G f) : f = G :=
  funext fun y => h y (by have h : (y 0).val < 8192 := (y 0).isLt; omega)

section Store
variable {sig : RefSig} {κ : Kind} {sp : Space} {e : EltTy} {Val : EltTy → Type}

/-- One block's store carries the filling on by 1024 rows. -/
theorem filled_store {n : ℕ} (v : View sig κ sp (⟨2, ![4096, n]⟩ : Shape) e) (f : v.ty.Contents Val) (p : Fin 2) (k : ℕ) (hk : k < 4) (b : Fin 8)
    (hb : b.val = 4 * p.val + k) (G : Fin 8 → (⟨2, ![1024, n]⟩ : Shape).Idx → Val e) {off : Fin 2 → ℕ}
    (inb : ∀ a : Fin 2, off a + (![1024, n] : Fin 2 → ℕ) a ≤ (![4096, n] : Fin 2 → ℕ) a) (hoff : off = ![1024 * k, 0])
    (w : (⟨2, ![1024, n]⟩ : Shape).Idx → Val e) (hw : w = G b)
    (h : Filled p (1024 * k) (glue G) (v.read Val f)) :
    Filled p (1024 * (k + 1)) (glue G)
      (v.read Val (v.writes Val f [⟨Rect.unit (s := (⟨2, ![4096, n]⟩ : Shape)) off ![1024, n] inb, w⟩])) := by
  intro a c ha
  have hp := p.isLt
  by_cases hlt : a.val < 1024 * k
  · rw [View.read_writes_cons_rows_of_not_mem v f inb w [] (ix2 a c) hoff rfl (.inl hlt), View.writes_nil]
    exact h a c hlt
  · have hx : a.val - 1024 * k < 1024 := by omega
    rw [View.read_writes_cons_rows_of_mem v f inb w [] (ix2 a c) (ix2 ⟨a.val - 1024 * k, hx⟩ c) hoff
      (by show a.val = 1024 * k + (a.val - 1024 * k); omega) rfl, hw]
    have e1 : blkOf (ix2 (⟨4096 * p.val + a.val, by have := a.isLt; omega⟩ : Fin 8192) c) = b :=
      Fin.ext (by show (4096 * p.val + a.val) / 1024 = b.val; omega)
    have e2 : inBlk (ix2 (⟨4096 * p.val + a.val, by have := a.isLt; omega⟩ : Fin 8192) c) = ix2 ⟨a.val - 1024 * k, hx⟩ c := by
      show ix2 (⟨(4096 * p.val + a.val) % 1024, _⟩ : Fin 1024) c = _
      congr 1
      exact Fin.ext (by show (4096 * p.val + a.val) % 1024 = a.val - 1024 * k; omega)
    unfold glue
    rw [e1, e2]

/-- A core's whole share copied out carries a result on by 4096 rows. -/
theorem done_copy {n : ℕ} (v : View sig κ sp (⟨2, ![8192, n]⟩ : Shape) e) (f : v.ty.Contents Val) (p : Fin 2)
    (G : (⟨2, ![8192, n]⟩ : Shape).Idx → Val e) {off : Fin 2 → ℕ}
    (inb : ∀ a : Fin 2, off a + (![4096, n] : Fin 2 → ℕ) a ≤ (![8192, n] : Fin 2 → ℕ) a) (hoff : off = ![4096 * p.val, 0])
    (w : (⟨2, ![4096, n]⟩ : Shape).Idx → Val e) (hw : Filled p 4096 G w) (h : Done p.val G (v.read Val f)) :
    Done (p.val + 1) G (v.read Val (v.writes Val f [⟨Rect.unit (s := (⟨2, ![8192, n]⟩ : Shape)) off ![4096, n] inb, w⟩])) := by
  intro y hy
  have hp := p.isLt
  by_cases hlt : (y 0).val < 4096 * p.val
  · rw [View.read_writes_cons_rows_of_not_mem v f inb w [] y hoff rfl (.inl hlt), View.writes_nil]
    exact h y hlt
  · have hx : (y 0).val - 4096 * p.val < 4096 := by omega
    rw [View.read_writes_cons_rows_of_mem v f inb w [] y (ix2 ⟨(y 0).val - 4096 * p.val, hx⟩ (y 1)) hoff
      (by show (y 0).val = 4096 * p.val + ((y 0).val - 4096 * p.val); omega) rfl, hw ⟨_, hx⟩ (y 1) hx]
    refine congrArg G (Shape.idx_ext₂ ?_ rfl)
    show 4096 * p.val + ((y 0).val - 4096 * p.val) = (y 0).val
    omega

end Store

end Cert.Proof.Run

end
-- ==== Proof.Pieces.lean ====
/-
  THE PIECES OF A CORE. The ownership of each slice the pipeline moves — the slots, their semaphores, the token
  blocks, the buffers — under one name each, and what a load of a slot reads once its block has landed.
-/
module

public import proofs.«01_k».proof.Proof.Blocks
public import Idealize.ShloMosaic.Lib.VecWindow

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra: the pipeline's rounds, and the counters that carry a transfer across trips. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev wM : Memref sig .tc .vmem S16x4096 .f32 := Memref.whole cc0_scoped2
abbrev r0M : Memref sig .tc .vmem S4096x16 .f32 := Memref.whole cc0_scratch0
abbrev r1M : Memref sig .tc .vmem S4096x2 .f32 := Memref.whole cc0_scratch1
abbrev r2M : Memref sig .tc .vmem S4096x2 .i32 := Memref.whole cc0_scratch2
abbrev cntM : Memref sig .tc .smem S1 .i32 := Memref.whole cc0_scratch3

/-- A rectangle of a buffer read as a whole, after words `p` were written through that rectangle under another shape
    of as many elements: `p` under the rectangle's shape. -/
theorem readAt_reshaped {sig : RefSig} {κ : Kind} {sp : Space} {s s' : Shape} {e : EltTy} {Val : EltTy → Type} (v : View sig κ sp s e) (r : Rect s)
    (hn : s'.numel = r.shape.numel) (f : v.ty.Contents Val) (p : s'.Idx → Val e) :
    v.readAt Val r.toLoadRect (((v.slice r).reshape s' hn).writes Val f [⟨Rect.whole s', p⟩])
      = fun j => p (Shape.reshapeEquiv hn.symm j) := by
  funext j
  have h := congrFun (View.read_writes_whole ((v.slice r).reshape s' hn) f p) (Shape.reshapeEquiv hn.symm j)
  refine Eq.trans ?_ h
  have e : Shape.reshapeEquiv hn (Shape.reshapeEquiv hn.symm j) = j := by
    rw [Shape.reshapeEquiv_reshapeEquiv, Shape.reshapeEquiv_self]
  show v.read Val _ (r.emb j) = v.read Val _ (r.emb (Shape.reshapeEquiv hn (Shape.reshapeEquiv hn.symm j)))
  rw [e]

section Pieces
variable (c : Dev nD) (XA : Buf (Elt F) (xM.view.loc (c : Thread nD τ))) (i : grid0.Coords)

/-- Slot `s`'s semaphore at zero. -/
abbrev cellP (s : Fin 2) : sProp 𝕄 := semVal ((c : Thread nD τ), SemLoc.dma (csm s).sem) 0
/-- Slot `s` held at `f`. -/
abbrev slotP (s : Fin 2) (f : Buf (Elt F) ((rslot s).view.loc (c : Thread nD τ))) : sProp 𝕄 :=
  (rslot s).view.loc (c : Thread nD τ) ↦[(rslot s).view.set]{fullShare} f
/-- Block `b` of core `i` home: held at the tokens' contents. -/
abbrev homeP (b : Fin 4) : sProp 𝕄 := (xblk i b).view.loc (c : Thread nD τ) ↦[(xblk i b).view.set]{fullShare} XA
/-- Block `b`'s words. -/
abbrev payload (b : Fin 4) : S1024x4096.Idx → Elt F .f32 := ReadAs.same.apply ((xblk i b).view.read (Elt F) XA)
/-- What block `b`'s transfer leaves in slot `s`. -/
abbrev landed (s : Fin 2) (b : Fin 4) (f : Buf (Elt F) ((rslot s).view.loc (c : Thread nD τ))) : Buf (Elt F) ((rslot s).view.loc (c : Thread nD τ)) :=
  (rslot s).view.writes (Elt F) f [⟨Rect.whole S1024x4096, payload c XA i b⟩]
/-- The units a block's transfer moves on its semaphore. -/
abbrev NN (s : Fin 2) : ℕ := 524288
/-- Slot `s` in flight with block `b`. -/
abbrev flightP (s : Fin 2) (b : Fin 4) (f : Buf (Elt F) ((rslot s).view.loc (c : Thread nD τ))) : sProp 𝕄 :=
  Transfers.Flight countersEmb (c : Thread nD τ) (SemLoc.dma (csm s).sem) () (NN s) iprop(slotP c s (landed c XA i s b f) ∗ homeP c XA i b)

abbrev wP (g : Buf (Elt F) (wM.view.loc (c : Thread nD τ))) : sProp 𝕄 := wM.view.loc (c : Thread nD τ) ↦[wM.view.set]{fullShare} g
abbrev r0P (g : Buf (Elt F) (r0M.view.loc (c : Thread nD τ))) : sProp 𝕄 := r0M.view.loc (c : Thread nD τ) ↦[r0M.view.set]{fullShare} g
abbrev r1P (g : Buf (Elt F) (r1M.view.loc (c : Thread nD τ))) : sProp 𝕄 := r1M.view.loc (c : Thread nD τ) ↦[r1M.view.set]{fullShare} g
abbrev r2P (g : Buf (Elt F) (r2M.view.loc (c : Thread nD τ))) : sProp 𝕄 := r2M.view.loc (c : Thread nD τ) ↦[r2M.view.set]{fullShare} g
abbrev cntP (g : Buf (Elt F) (cntM.view.loc (c : Thread nD τ))) : sProp 𝕄 := cntM.view.loc (c : Thread nD τ) ↦[cntM.view.set]{fullShare} g
/-- The step counter holds `k`. -/
def CntOK (k : ℕ) (g : Buf (Elt F) (cntM.view.loc (c : Thread nD τ))) : Prop :=
  ∀ j, cntM.view.readAt (Elt F) (Rect.unit (s := S1) ![0] S1.size inb_S1_S1_0).toLoadRect g j = BitVec.ofNat 32 k

theorem homes_here (k : ℕ) (hk : k + 1 < 4) :
    bigSep (Ring.homeSet 1 k) (homeP c XA i) = iprop(homeP c XA i (Ring.bk 4 (k + 1)) ∗ bigSep ((Ring.homeSet 1 k).erase (Ring.bk 4 (k + 1))) (homeP c XA i)) := by
  conv_lhs => rw [Ring.homeSet_out 1 k hk, bigSep_insert (Ring.bkL_not_mem_erase 1 k)]
  rfl
theorem homes_next (k : ℕ) (hk : k + 1 < 4) :
    bigSep (Ring.homeSet 1 (k + 1)) (homeP c XA i) = iprop(homeP c XA i (Ring.bk 4 k) ∗ bigSep ((Ring.homeSet 1 k).erase (Ring.bk 4 (k + 1))) (homeP c XA i)) := by
  conv_lhs => rw [Ring.homeSet_succ 1 k hk, bigSep_insert (Ring.bk_not_mem_erase 1 k (by omega) (by decide))]
  rfl

/-- The grid point of core `n`. -/
abbrev core (n : Fin 2) : grid0.Coords := fun a => ⟨n.val, by obtain rfl : a = 0 := Subsingleton.elim _ _; exact n.isLt⟩
theorem coords_cases (i : grid0.Coords) : i = core 0 ∨ i = core 1 := by
  have h : (i 0).val < 2 := (i 0).isLt
  rcases (by omega : (i 0).val = 0 ∨ (i 0).val = 1) with h | h
  · exact .inl (funext fun a => by obtain rfl : a = 0 := Subsingleton.elim _ _; exact Fin.ext h)
  · exact .inr (funext fun a => by obtain rfl : a = 0 := Subsingleton.elim _ _; exact Fin.ext h)

/-- Block `b` of core `i` is block `B = 4 i + b` of the tokens. -/
theorem payload_eq (b : Fin 4) (B : Fin 8) (hB : B.val = 4 * (i 0).val + b.val) : payload c XA i b = blkRows (F := F) XA B := by
  funext y
  show XA _ = XA _
  refine congrArg XA (Shape.idx_ext₂ ?_ ?_)
  · show 1024 * (4 * (i 0).val + b.val) + 1 * (y 0).val = 1024 * B.val + (y 0).val
    rw [hB, Nat.one_mul]
  · show 0 + 1 * (y 1).val = (y 1).val
    omega

/-- A load of slot `s` right after block `b` landed there reads block `b`. -/
theorem slot_read (s : Fin 2) (off : Fin 3 → Nat) (e : off = slotOff s) (b : Fin 4) (B : Fin 8) (hB : B.val = 4 * (i 0).val + b.val)
    (hh : ∀ a, off a + S1x1024x4096.size a ≤ S2x1024x4096.size a)
    (f : Buf (Elt F) ((rslot s).view.loc (c : Thread nD τ))) :
    View.readAt (Elt F) bufM.view (Rect.unit (s := S2x1024x4096) off S1x1024x4096.size hh).toLoadRect (landed c XA i s b f)
      = tile (F := F) XA B := by
  subst e
  have h1 := payload_eq c XA i b B hB
  have h2 := readAt_reshaped (Val := Elt F) bufM.view (Rect.unit (s := S2x1024x4096) (slotOff s) S1x1024x4096.size hh)
    (s' := S1024x4096) squeezes_S1x1024x4096_S1024x4096.numel_eq f (blkRows (F := F) XA B)
  unfold landed
  rw [h1]
  unfold tile
  exact h2
end Pieces
end Cert.Proof.Run

end
-- ==== Proof.Trip.lean ====
/-
  ONE TRIP OF THE PIPELINE. Before trip `k` block `k` of the core is on its way into slot `k % 2`, the other slot is
  free, the other blocks are home and the first `1024 k` rows of the three buffers are filled. The trip sends block
  `k + 1` out (where there is one), waits for block `k`, computes its rows and stores them. `loopInv` is that
  statement as the loop's invariant.
-/
module

public import proofs.«01_k».proof.Proof.Pieces

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Pieces
variable (c : Dev nD) (XA : Buf (Elt F) (xM.view.loc (c : Thread nD τ))) (i : grid0.Coords)

/-- The three buffers' first `r` rows filled, the weights landed, the counter at `k`. -/
def Kept (WA : S16x4096.Idx → Elt F .f32) (k : ℕ) (gw : Buf (Elt F) (wM.view.loc (c : Thread nD τ))) (g0 : Buf (Elt F) (r0M.view.loc (c : Thread nD τ)))
    (g1 : Buf (Elt F) (r1M.view.loc (c : Thread nD τ))) (g2 : Buf (Elt F) (r2M.view.loc (c : Thread nD τ))) (gc : Buf (Elt F) (cntM.view.loc (c : Thread nD τ))) : Prop :=
  View.readAt (Elt F) wM.view (Rect.unit ![0, 0] S16x4096.size inb_S16x4096_S16x4096_0_0).toLoadRect gw = WA
    ∧ Filled (i 0) (1024 * k) (out0 XA WA) (r0M.view.read (Elt F) g0)
    ∧ Filled (i 0) (1024 * k) (out1 XA WA) (r1M.view.read (Elt F) g1)
    ∧ Filled (i 0) (1024 * k) (out2 XA WA) (r2M.view.read (Elt F) g2)
    ∧ CntOK c k gc

/-- The buffers a trip reads and writes, so kept. -/
def keptAt (WA : S16x4096.Idx → Elt F .f32) (k : ℕ) : sProp 𝕄 :=
  iprop(∃ gw g0 g1 g2 gc, ⌜Kept c XA i WA k gw g0 g1 g2 gc⌝ ∗ wP c gw ∗ r0P c g0 ∗ r1P c g1 ∗ r2P c g2 ∗ cntP c gc ∗ ∃ W, owes (c : Thread nD τ) 0 W)

/-- The pipeline before trip `k`, a trip to come. -/
def goingAt (k : ℕ) : sProp 𝕄 :=
  iprop(bigSep (Ring.homeSet 1 k) (homeP c XA i) ∗ (∃ f, flightP c XA i (Ring.sl 2 k) (Ring.bk 4 k) f)
    ∗ (∃ f, slotP c (Ring.sl 2 (k + 1)) f) ∗ cellP c (Ring.sl 2 (k + 1)))
/-- The pipeline after the last trip. -/
def doneAt : sProp 𝕄 :=
  iprop(bigSep Finset.univ (homeP c XA i) ∗ (∃ f, slotP c 0 f) ∗ (∃ f, slotP c 1 f) ∗ cellP c 0 ∗ cellP c 1)
def pipeAt (k : ℕ) : sProp 𝕄 := if k < 4 then goingAt c XA i k else doneAt c XA i

abbrev accAt (k : ℕ) : BitVec 32 × BitVec 32 × BitVec 32 × BitVec 32 :=
  (BitVec.ofNat 32 (min (k + 1) 4), BitVec.ofNat 32 k, BitVec.ofNat 32 (k / 4), BitVec.ofNat 32 (k % 4))

abbrev tripG (v0 v2 v3 v4 v5 : BitVec 32) (k : Fin k0_t1_loop.trips) (acc) :=
  k0_t1_body (F := F) i xM (Memref.isWhole_whole _) (Memref.whole main_arg1) (Memref.isWhole_whole _) (Memref.whole main_v1_0) (Memref.isWhole_whole _)
    (Memref.whole main_v1_1) (Memref.isWhole_whole _) (Memref.whole main_v1_2) (Memref.isWhole_whole _) r0M (Memref.isWhole_whole _) r1M (Memref.isWhole_whole _)
    r2M (Memref.isWhole_whole _) cntM (Memref.isWhole_whole _) cc0_scratch4 bufM (Memref.isWhole_whole _) cc0_scoped1 wM (Memref.isWhole_whole _) cc0_scoped3
    v0 (Scalar.muli (BitVec.ofNat 32 (i 0).val) 4#32) v2 v3 v4 v5 0#32 k acc

/-- What trip `k` leaves in the buffers is kept at `k + 1`. -/
theorem kept_next (WA : S16x4096.Idx → Elt F .f32) (k : ℕ) (hk : k < 4) (gw g0 g1 g2 gc) (h : Kept c XA i WA k gw g0 g1 g2 gc)
    (w0 w1 w2 wc) (r : BitVec 32) (hr : r = BitVec.ofNat 32 k) (h0 h1) (B : Fin 8) (hB : B.val = 4 * (i 0).val + k)
    (hw0 : w0 = pay0 XA WA B) (hw1 : w1 = pay1 XA WA B) (hw2 : w2 = pay2 XA WA B) (hwc : wc = Scalar.addi r 1#32) :
    Kept c XA i WA (k + 1) gw
      (r0M.view.writes (Elt F) g0 [⟨Rect.unit (k0_off11 r) S1024x16.size h0, w0⟩])
      (r1M.view.writes (Elt F) g1 [⟨Rect.unit (k0_off12 r) S1024x2.size h1, w1⟩])
      (r2M.view.writes (Elt F) g2 [⟨Rect.unit (k0_off12 r) S1024x2.size h1, w2⟩])
      (cntM.view.writes (Elt F) gc [⟨Rect.unit ![0] S1.size inb_S1_S1_0, fun _ => wc⟩]) := by
  subst hr
  refine ⟨h.1, ?_, ?_, ?_, ?_⟩
  · exact filled_store r0M.view g0 (i 0) k hk B hB (pay0 XA WA) h0 (off11_eq k hk) w0 hw0 h.2.1
  · exact filled_store r1M.view g1 (i 0) k hk B hB (pay1 XA WA) h1 (off12_eq k hk) w1 hw1 h.2.2.1
  · exact filled_store r2M.view g2 (i 0) k hk B hB (pay2 XA WA) h1 (off12_eq k hk) w2 hw2 h.2.2.2.1
  · intro j
    rw [View.readAt_writes_full, hwc]
    exact (BitVec.ofNat_add ..).symm

variable (WA : S16x4096.Idx → Elt F .f32) (v0 v2 v3 v4 v5 : BitVec 32)

abbrev blkNo (i : grid0.Coords) (k : Fin k0_t1_loop.trips) : Fin 8 :=
  ⟨4 * (i 0).val + k.val, by have h1 : (i 0).val < 2 := (i 0).isLt; have := trip_lt k; omega⟩

set_option maxRecDepth 16384 in
/-- A trip that sends the next block out. -/
theorem trip_issue (k : Fin k0_t1_loop.trips) (hk : k.val + 1 < 4) :
    iprop(keptAt c XA i WA k.val ∗ goingAt c XA i k.val)
    ⊢ wp frame (wpE (defs₀ (F := F)) 𝒱₀ (c : Thread nD τ) none) Set.univ
        (tripG i v0 v2 v3 v4 v5 k (BitVec.ofNat 32 (k.val + 1), BitVec.ofNat 32 k.val, 0#32, BitVec.ofNat 32 k.val))
        fun acc => iprop(⌜acc = accAt (k.val + 1)⌝ ∗ keptAt c XA i WA (k.val + 1) ∗ goingAt c XA i (k.val + 1)) := by
  have hc1 := cond1_yes i k hk
  have hc2 := cond2_yes i k
  have hk1 := chk1_ok i k
  have hk2 := chk2_ok k
  unfold keptAt goingAt
  rw [homes_here c XA i k.val hk, homes_next c XA i k.val hk, show Ring.sl 2 (k.val + 1 + 1) = Ring.sl 2 k.val from Ring.sl_add _ _]
  iintro ⟨⟨%gw, %g0, %g1, %g2, %gc, %hK, Hw, H0, H1, H2, Hcnt, ⟨%W, HW⟩⟩, ⟨Hg, Hrest⟩, ⟨%f0, HF⟩, ⟨%f1, Hs⟩, Hcell⟩
  dsimp only [tripG]
  sl_unfold [k0_t1_body]
  sl_exec
  have h3 : k0_chk3 (trip_issue.sl.r c gc) := by
    rw [show trip_issue.sl.r c gc = BitVec.ofNat 32 k.val from hK.2.2.2.2 _]; exact chk3_ok _ (by omega)
  sl_exec
  sl_step
  isplitr
  · ipureintro
    have hk' : k.val < 3 := by omega
    clear h3 hK hc1 hc2 hk1 hk2
    obtain ⟨kv, hkv⟩ := k
    dsimp only at hk' ⊢
    rcases coords_cases i with rfl | rfl <;> interval_cases kv <;> refine Prod.ext ?_ (Prod.ext ?_ (Prod.ext ?_ ?_)) <;> first | rfl | decide +revert
  isplitl [Hw H0 H1 H2 Hcnt HW]
  · iexists gw, _, _, _, _
    isplitr; swap
    · isplitl [Hw]; · iexact Hw
      isplitl [H0]; · iexact H0
      isplitl [H1]; · iexact H1
      isplitl [H2]; · iexact H2
      isplitl [Hcnt]; · iexact Hcnt
      iexists _; iexact HW
    · ipureintro
      have e1 := slot_read c XA i (Ring.sl 2 k.val) _ (off10_eq k.val (by have := trip_lt k; omega)) (Ring.bk 4 k.val) (blkNo i k) (by rw [Ring.bk_val (trip_lt k)]) hk2 (rslot (Ring.sl 2 k.val)).view.junk
      refine kept_next c XA i WA k.val (by omega) gw g0 g1 g2 gc hK _ _ _ _ _ (hK.2.2.2.2 _) _ _ (blkNo i k) rfl ?_ ?_ ?_ rfl
      · exact congrArg₂ k0_pay2 e1 hK.1
      · exact congrArg₂ (fun a b => k0_pay8 (k0_pay3 a b) (k0_pay6 a b)) e1 hK.1
      · exact congrArg₂ (fun a b => k0_pay9 (k0_pay4 a b) (k0_pay7 a b)) e1 hK.1
  isplitl [HF_src Hrest]
  · isplitl [HF_src]; · iexact HF_src
    iexact Hrest
  isplitl [Hcell]; · iexists f1; iexact Hcell
  isplitl [HF_dst]; · iexists _; iexact HF_dst
  iexact HF

/-- After the last trip's wait every block is home. -/
theorem homes_last (k : ℕ) (hk : k = 3) :
    iprop(homeP c XA i (Ring.bk 4 k) ∗ bigSep (Ring.homeSet 1 k) (homeP c XA i)) ⊢ bigSep Finset.univ (homeP c XA i) := by
  subst hk
  rw [← Ring.homeSet_last (NB := 4) 1 4 (by decide), Ring.homeSet_succ_tail 1 3 (by decide) (by decide),
    bigSep_insert (Ring.bk_not_mem_homeSet 1 3 (by decide) (by decide))]
  exact .rfl
theorem sl_last (k : ℕ) (hk : k = 3) : Ring.sl 2 k = 1 := by subst hk; exact Fin.ext (by rfl)
theorem sl_last' (k : ℕ) (hk : k = 3) : Ring.sl 2 (k + 1) = 0 := by subst hk; exact Fin.ext (by rfl)

set_option maxRecDepth 16384 in
/-- The last trip: nothing to send out. -/
theorem trip_last (k : Fin k0_t1_loop.trips) (hk : ¬ k.val + 1 < 4) :
    iprop(keptAt c XA i WA k.val ∗ goingAt c XA i k.val)
    ⊢ wp frame (wpE (defs₀ (F := F)) 𝒱₀ (c : Thread nD τ) none) Set.univ
        (tripG i v0 v2 v3 v4 v5 k (BitVec.ofNat 32 (k.val + 1), BitVec.ofNat 32 k.val, 0#32, BitVec.ofNat 32 k.val))
        fun acc => iprop(⌜acc = accAt (k.val + 1)⌝ ∗ keptAt c XA i WA (k.val + 1) ∗ doneAt c XA i) := by
  have hk4 := trip_lt k
  have hc1 := cond1_no i k hk
  have hc2 := cond2_yes i k
  have hk1 := chk1_ok i k
  have hk2 := chk2_ok k
  have es := sl_last k.val (by omega)
  have es' := sl_last' k.val (by omega)
  unfold keptAt goingAt doneAt
  rw [← es, ← es']
  iintro ⟨⟨%gw, %g0, %g1, %g2, %gc, %hK, Hw, H0, H1, H2, Hcnt, ⟨%W, HW⟩⟩, Hrest, ⟨%f0, HF⟩, Hs, Hcell⟩
  dsimp only [tripG]
  sl_unfold [k0_t1_body]
  sl_exec
  have h3 : k0_chk3 (trip_last.sl.r c gc) := by
    rw [show trip_last.sl.r c gc = BitVec.ofNat 32 k.val from hK.2.2.2.2 _]; exact chk3_ok _ (by omega)
  sl_exec
  sl_step
  isplitr
  · ipureintro
    have hk' : k.val = 3 := by omega
    clear h3 hK hc1 hc2 hk1 hk2 es es' hk
    obtain ⟨kv, hkv⟩ := k
    dsimp only at hk' ⊢
    subst hk'
    rcases coords_cases i with rfl | rfl <;> refine Prod.ext ?_ (Prod.ext ?_ (Prod.ext ?_ ?_)) <;> first | rfl | decide +revert
  isplitl [Hw H0 H1 H2 Hcnt HW]
  · iexists gw, _, _, _, _
    isplitr; swap
    · isplitl [Hw]; · iexact Hw
      isplitl [H0]; · iexact H0
      isplitl [H1]; · iexact H1
      isplitl [H2]; · iexact H2
      isplitl [Hcnt]; · iexact Hcnt
      iexists _; iexact HW
    · ipureintro
      have e1 := slot_read c XA i (Ring.sl 2 k.val) _ (off10_eq k.val (by omega)) (Ring.bk 4 k.val) (blkNo i k) (by rw [Ring.bk_val (by omega)]) hk2 (rslot (Ring.sl 2 k.val)).view.junk
      refine kept_next c XA i WA k.val (by omega) gw g0 g1 g2 gc hK _ _ _ _ _ (hK.2.2.2.2 _) _ _ (blkNo i k) rfl ?_ ?_ ?_ rfl
      · exact congrArg₂ k0_pay2 e1 hK.1
      · exact congrArg₂ (fun a b => k0_pay8 (k0_pay3 a b) (k0_pay6 a b)) e1 hK.1
      · exact congrArg₂ (fun a b => k0_pay9 (k0_pay4 a b) (k0_pay7 a b)) e1 hK.1
  isplitl [HF_src Hrest]
  · iapply (homes_last c XA i k.val (by omega))
    isplitl [HF_src]; · iexact HF_src
    iexact Hrest
  isplitl [Hs]; · iexact Hs
  isplitl [HF_dst]; · iexists _; iexact HF_dst
  isplitl [Hcell]; · iexact Hcell
  iexact HF

theorem accAt_lt (k : ℕ) (h : k < 4) : accAt k = (BitVec.ofNat 32 (k + 1), BitVec.ofNat 32 k, 0#32, BitVec.ofNat 32 k) := by
  interval_cases k <;> rfl

set_option warn.classDefReducibility false in
/-- THE LOOP'S INVARIANT: the carried words, the buffers filled so far, the pipeline's state. -/
@[sl_loop] def loopInv (v43 c31 c32 c33 : BitVec 32) (arg0 : BitVec 32) :
    LoopInvTy_k0_t1 (F := F) Unit ℕ (UU nD τ) ℕ 𝒱₀ c none Set.univ i xM (Memref.isWhole_whole _) (Memref.whole main_arg1) (Memref.isWhole_whole _) (Memref.whole main_v1_0) (Memref.isWhole_whole _)
    (Memref.whole main_v1_1) (Memref.isWhole_whole _) (Memref.whole main_v1_2) (Memref.isWhole_whole _) r0M (Memref.isWhole_whole _) r1M (Memref.isWhole_whole _)
    r2M (Memref.isWhole_whole _) cntM (Memref.isWhole_whole _) cc0_scratch4 bufM (Memref.isWhole_whole _) cc0_scoped1 wM (Memref.isWhole_whole _) cc0_scoped3
    arg0 (Scalar.muli (BitVec.ofNat 32 (i 0).val) 4#32) v43 c31 c32 c33 0#32 (v43, c31, c32, c33) where
  inv k acc := iprop(⌜acc = accAt k⌝ ∗ keptAt c XA i WA k ∗ pipeAt c XA i k)
  step k acc := by
    have hk4 := trip_lt k
    unfold pipeAt
    rw [if_pos hk4]
    by_cases hk : k.val + 1 < 4
    · rw [if_pos hk]
      iintro ⟨%hacc, HK, HP⟩
      subst hacc
      irw [accAt_lt k.val hk4]
      iapply (trip_issue c XA i WA arg0 v43 c31 c32 c33 k hk)
      isplitl [HK]; · iexact HK
      iexact HP
    · rw [if_neg hk]
      iintro ⟨%hacc, HK, HP⟩
      subst hacc
      irw [accAt_lt k.val hk4]
      iapply (trip_last c XA i WA arg0 v43 c31 c32 c33 k hk)
      isplitl [HK]; · iexact HK
      iexact HP

end Pieces
end Cert.Proof.Run

end
-- ==== Proof.Body.lean ====
/-
  ONE CORE'S RUN. The weights are fetched, block 0 sent out, the loop run by its invariant, the three buffers copied
  to the core's rows of the three results. `bodyRun`: from everything the core uses to the same with the results'
  first `4096 (n + 1)` rows right where the first `4096 n` were.
-/
module

public import proofs.«01_k».proof.Proof.Trip

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

abbrev wSrc : Memref sig .tc .hbm S16x4096 .f32 := Memref.whole main_arg1
abbrev y0M : Memref sig .tc .hbm S8192x16 .f32 := Memref.whole main_v1_0
abbrev y1M : Memref sig .tc .hbm S8192x2 .f32 := Memref.whole main_v1_1
abbrev y2M : Memref sig .tc .hbm S8192x2 .i32 := Memref.whole main_v1_2

section Body
variable (c : Dev nD) (XA : Buf (Elt F) (xM.view.loc (c : Thread nD τ))) (i : grid0.Coords)
variable (WA : Buf (Elt F) (wSrc.view.loc (c : Thread nD τ)))

abbrev srcP : sProp 𝕄 := wSrc.view.loc (c : Thread nD τ) ↦[wSrc.view.set]{fullShare} WA
abbrev y0P (h : Buf (Elt F) (y0M.view.loc (c : Thread nD τ))) : sProp 𝕄 := y0M.view.loc (c : Thread nD τ) ↦[y0M.view.set]{fullShare} h
abbrev y1P (h : Buf (Elt F) (y1M.view.loc (c : Thread nD τ))) : sProp 𝕄 := y1M.view.loc (c : Thread nD τ) ↦[y1M.view.set]{fullShare} h
abbrev y2P (h : Buf (Elt F) (y2M.view.loc (c : Thread nD τ))) : sProp 𝕄 := y2M.view.loc (c : Thread nD τ) ↦[y2M.view.set]{fullShare} h

/-- The three copies' semaphores and the weights'. -/
abbrev o0sem : SemLoc sig := .dma ((cc0_scratch4.slice (Rect.unit (s := S3) ![0] S1.size inb_S3_S1_0)).squeeze S_ squeezes_S1_S_).sem
abbrev o1sem : SemLoc sig := .dma ((cc0_scratch4.slice (Rect.unit (s := S3) ![1] S1.size inb_S3_S1_1)).squeeze S_ squeezes_S1_S_).sem
abbrev o2sem : SemLoc sig := .dma ((cc0_scratch4.slice (Rect.unit (s := S3) ![2] S1.size inb_S3_S1_2)).squeeze S_ squeezes_S1_S_).sem
abbrev wsem : SemLoc sig := .dma cc0_scoped3.sem

/-- The first `4096 t` rows of the three results are right. -/
def Good (t : ℕ) (h0 : Buf (Elt F) (y0M.view.loc (c : Thread nD τ))) (h1 : Buf (Elt F) (y1M.view.loc (c : Thread nD τ)))
    (h2 : Buf (Elt F) (y2M.view.loc (c : Thread nD τ))) : Prop :=
  Done t (out0 XA WA) (y0M.view.read (Elt F) h0) ∧ Done t (out1 XA WA) (y1M.view.read (Elt F) h1) ∧ Done t (out2 XA WA) (y2M.view.read (Elt F) h2)

abbrev bodyG : Prog (TpuEff nD τ sig (Elt F) Λ₀ .tc) PUnit :=
  cc0_body i xM (Memref.isWhole_whole _) wSrc (Memref.isWhole_whole _) y0M (Memref.isWhole_whole _)
    y1M (Memref.isWhole_whole _) y2M (Memref.isWhole_whole _) r0M (Memref.isWhole_whole _) r1M (Memref.isWhole_whole _)
    r2M (Memref.isWhole_whole _) cntM (Memref.isWhole_whole _) cc0_scratch4 bufM (Memref.isWhole_whole _) cc0_scoped1 wM (Memref.isWhole_whole _) cc0_scoped3

/-- The buffers and semaphores of a core's own, at anything and at zero. -/
abbrev bufsP : sProp 𝕄 :=
  iprop((∃ f, slotP c 0 f) ∗ (∃ f, slotP c 1 f) ∗ (∃ g, wP c g) ∗ (∃ g, r0P c g) ∗ (∃ g, r1P c g) ∗ (∃ g, r2P c g) ∗ (∃ g, cntP c g))
abbrev cellsP : sProp 𝕄 :=
  iprop(semVal ((c : Thread nD τ), o0sem) 0 ∗ semVal ((c : Thread nD τ), o1sem) 0 ∗ semVal ((c : Thread nD τ), o2sem) 0 ∗ cellP c 0 ∗ cellP c 1
    ∗ semVal ((c : Thread nD τ), wsem) 0)
abbrev resP (t : ℕ) : sProp 𝕄 := iprop(∃ h0 h1 h2, ⌜Good c XA WA t h0 h1 h2⌝ ∗ y0P c h0 ∗ y1P c h1 ∗ y2P c h2)

theorem homes_zero : bigSep Finset.univ (homeP c XA i) = iprop(homeP c XA i 0 ∗ bigSep (Ring.homeSet 1 0) (homeP c XA i)) := by
  have e : (Finset.univ : Finset (Fin 4)) = insert 0 (Ring.homeSet (NB := 4) 1 0) := by decide
  rw [e, bigSep_insert (by decide)]; rfl
theorem sl2_0 : Ring.sl 2 0 = 0 := Fin.ext (by rfl)
theorem sl2_1 : Ring.sl 2 (0 + 1) = 1 := Fin.ext (by rfl)
theorem bk4_0 : Ring.bk 4 0 = 0 := Fin.ext (by rfl)

/-- Equal assertions entail each other. -/
theorem ofEq {P Q : sProp 𝕄} (e : P = Q) : P ⊢ Q := by rw [e]

/-- At the loop's entry: the weights landed, the counter stored zero, no row filled yet. -/
theorem kept_zero (g0 g1 g2) : Kept c XA i WA 0 (wM.view.writes (Elt F) wM.view.junk [⟨Rect.whole S16x4096, ReadAs.same.apply (wSrc.view.read (Elt F) WA)⟩]) g0 g1 g2
    (cntM.view.writes (Elt F) cntM.view.junk [⟨Rect.unit (s := S1) ![0] S1.size inb_S1_S1_0, fun _ => 0#32⟩]) := by
  refine ⟨?_, filled_zero _ _ _, filled_zero _ _ _, filled_zero _ _ _, ?_⟩
  · funext j
    have h := congrFun (View.read_writes_whole wM.view (Val := Elt F) wM.view.junk (ReadAs.same.apply (wSrc.view.read (Elt F) WA))) ((Rect.unit (s := S16x4096) ![0, 0] S16x4096.size inb_S16x4096_S16x4096_0_0).emb j)
    refine h.trans ?_
    show WA _ = WA _
    refine congrArg WA (Shape.idx_ext₂ ?_ ?_)
    · show 0 + 1 * (j 0).val = (j 0).val; omega
    · show 0 + 1 * (j 1).val = (j 1).val; omega
  · intro j
    rw [View.readAt_writes_full]

/-- The three buffers, full after the loop, copied to the core's rows. -/
theorem good_next (y0 y1 y2 gw g0 g1 g2 gc) (hG : Good c XA WA (i 0).val y0 y1 y2) (hK : Kept c XA i WA 4 gw g0 g1 g2 gc) :
    Good c XA WA ((i 0).val + 1)
      (y0M.view.writes (Elt F) y0 [⟨Rect.unit (s := S8192x16) (k0_off13 i) S4096x16.size (k0_off13_inb i), ReadAs.same.apply (r0M.view.read (Elt F) g0)⟩])
      (y1M.view.writes (Elt F) y1 [⟨Rect.unit (s := S8192x2) (k0_off14 i) S4096x2.size (k0_off14_inb i), ReadAs.same.apply (r1M.view.read (Elt F) g1)⟩])
      (y2M.view.writes (Elt F) y2 [⟨Rect.unit (s := S8192x2) (k0_off14 i) S4096x2.size (k0_off14_inb i), ReadAs.same.apply (r2M.view.read (Elt F) g2)⟩]) :=
  ⟨done_copy y0M.view y0 (i 0) (out0 XA WA) (k0_off13_inb i) (off13_eq i) _ hK.2.1 hG.1,
   done_copy y1M.view y1 (i 0) (out1 XA WA) (k0_off14_inb i) (off14_eq i) _ hK.2.2.1 hG.2.1,
   done_copy y2M.view y2 (i 0) (out2 XA WA) (k0_off14_inb i) (off14_eq i) _ hK.2.2.2.1 hG.2.2⟩

attribute [local sl_canon] sl2_0 sl2_1 bk4_0 in
theorem bodyRun (W) (Q : PUnit → sProp 𝕄) :
    iprop((bigSep Finset.univ (homeP c XA i) ∗ srcP c WA ∗ bufsP c ∗ cellsP c ∗ resP c XA WA (i 0).val ∗ owes (c : Thread nD τ) 0 W)
      ∗ ((bigSep Finset.univ (homeP c XA i) ∗ srcP c WA ∗ bufsP c ∗ cellsP c ∗ resP c XA WA ((i 0).val + 1) ∗ ∃ W, owes (c : Thread nD τ) 0 W) -∗ Q ⟨⟩))
      ⊢ wp frame (wpE (defs₀ (F := F)) 𝒱₀ (c : Thread nD τ) none) Set.univ (bodyG i) Q := by
  iintro ⟨⟨Hh4, Hsrc, ⟨⟨%f0, Hs0⟩, ⟨%f1, Hs1⟩, ⟨%gw, Hw⟩, ⟨%g0, H0⟩, ⟨%g1, H1⟩, ⟨%g2, H2⟩, ⟨%gc, Hcnt⟩⟩, ⟨Ho0, Ho1, Ho2, Hc0, Hc1, Hcw⟩,
    ⟨%y0, %y1, %y2, %hG, HY0, HY1, HY2⟩, HW⟩, Hk⟩
  ihave Hh' := (ofEq (homes_zero c XA i)) $$ Hh4
  icases Hh' with ⟨Hh0, Hh⟩
  let L := loopInv c XA i WA (Scalar.addi 0#32 1#32) 0#32 0#32 0#32 (BitVec.ofNat 32 (i 0).val)
  have hK0 := kept_zero c XA i WA g0 g1 g2
  sl_exec
  sl_step
  icases Hc1 with ⟨Hc0', Hc1'⟩
  iapply Hk
  isplitl [Hh]; · iexact Hh
  isplitl [Hsrc]; · iexact Hsrc
  isplitl [Hc0 Hs1 Hw H0 H1 H2 Hcnt]
  · isplitl [Hc0]; · iexists _; iexact Hc0
    isplitl [Hs1]; · iexists _; iexact Hs1
    isplitl [Hw]; · iexists _; iexact Hw
    isplitl [H0]; · iexists _; iexact H0
    isplitl [H1]; · iexists _; iexact H1
    isplitl [H2]; · iexists _; iexact H2
    iexists _; iexact Hcnt
  isplitl [Ho0 Ho1 Ho2 Hc0' Hc1' Hcw]
  · isplitl [Ho0]; · iexact Ho0
    isplitl [Ho1]; · iexact Ho1
    isplitl [Ho2]; · iexact Ho2
    isplitl [Hc0']; · iexact Hc0'
    isplitl [Hc1']; · iexact Hc1'
    iexact Hcw
  isplitl [HY0 HY1 HY2]
  · iexists _, _, _
    isplitr; swap
    · isplitl [HY0]; · iexact HY0
      isplitl [HY1]; · iexact HY1
      iexact HY2
    · ipureintro
      exact good_next c XA i WA y0 y1 y2 gwL0 g0L1 g1L2 g2L3 gcL4 hG hL1
  iexists _; iexact HW

end Body
end Cert.Proof.Run

end
-- ==== Proof.Launch.lean ====
/-
  WHAT THE LAUNCH HANDS OVER, IN THE BODY'S PIECES: the tokens whole against their eight blocks, the input buffer
  whole against its two slots, the six semaphores at zero.
-/
module

public import proofs.«01_k».proof.Proof.Body
public import proofs.«01_k».proof.Proof.Gen.KernelIdeal.Frame

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The semaphores -/

abbrev osem : Fin 6 → SemLoc sig := ![SemLoc.dma 0, SemLoc.dma 1, SemLoc.dma 2, SemLoc.dma 3, SemLoc.dma 4, SemLoc.dma 5]
theorem ownSemFacts : Pipeline.OwnSemFacts (cfgs 0).spec osem := by decide

theorem csm0_eq : (csm 0).sem = 3 := by decide
theorem csm1_eq : (csm 1).sem = 4 := by decide

/-- The kernel's own semaphores at zero, each under the name the body uses. -/
theorem ownSems0_eq (c : Dev nD) : (Pipeline.ownSems0 (Ix := Unit) (Name := ℕ) (U := UU nD τ) (Lvl := ℕ) (Val := Elt F) (τ := τ) osem c : sProp 𝕄)
    = cellsP c := by
  rw [Pipeline.ownSems0_eq_of_list c osem [0, 1, 2, 3, 4, 5] (by decide) (by decide)]
  show _ = iprop(semVal ((c : Thread nD τ), SemLoc.dma 0) 0 ∗ semVal ((c : Thread nD τ), SemLoc.dma 1) 0 ∗ semVal ((c : Thread nD τ), SemLoc.dma 2) 0
    ∗ semVal ((c : Thread nD τ), SemLoc.dma (csm 0).sem) 0 ∗ semVal ((c : Thread nD τ), SemLoc.dma (csm 1).sem) 0 ∗ semVal ((c : Thread nD τ), SemLoc.dma 5) 0)
  rw [csm0_eq, csm1_eq]
  rfl

/-! ## The input buffer's two slots, the tokens' eight blocks -/

abbrev S2 (s : Fin 2) : Finset S2x1024x4096.Idx := (Rect.unit (s := S2x1024x4096) (slotOff s) S1x1024x4096.size (slotOff_inb s)).set
theorem rslot_set (s : Fin 2) : (rslot s).view.set = S2 s := (View.set_reshape _ _).trans (View.set_slice_whole _ _)
theorem mem_S2 (s : Fin 2) (y : S2x1024x4096.Idx) : y ∈ S2 s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
theorem S2_disjoint : ∀ s s' : Fin 2, s ≠ s' → Disjoint (S2 s) (S2 s') := by
  intro s s' hne; rw [Finset.disjoint_left]; intro y hy hy'; rw [mem_S2] at hy hy'; exact hne (Fin.ext (hy.symm.trans hy'))
theorem S2_cover : (Finset.univ : Finset (Fin 2)).biUnion S2 = Finset.univ := by
  ext y; simp only [Finset.mem_biUnion, Finset.mem_univ, true_and, iff_true]
  exact ⟨(⟨(y 0).val, (y 0).isLt⟩ : Fin 2), by rw [mem_S2]⟩

abbrev B8off (b : Fin 8) : Fin 2 → Nat := ![1024 * b.val, 0]
theorem B8_inb (b : Fin 8) : ∀ a, B8off b a + S1024x4096.size a ≤ S8192x4096.size a := by
  have := b.isLt; intro a; fin_cases a
  · show 1024 * b.val + 1024 ≤ 8192; omega
  · show 0 + 4096 ≤ 4096; omega
abbrev B8 (b : Fin 8) : Finset S8192x4096.Idx := (Rect.unit (s := S8192x4096) (B8off b) S1024x4096.size (B8_inb b)).set
theorem mem_B8 (b : Fin 8) (y : S8192x4096.Idx) : y ∈ B8 b ↔ (y 0).val / 1024 = b.val := by
  rw [Rect.mem_set_unit]
  have h1 : (y 1).val < 4096 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 4096; omega
theorem B8_disjoint : ∀ b b' : Fin 8, b ≠ b' → Disjoint (B8 b) (B8 b') := by
  intro b b' hne; rw [Finset.disjoint_left]; intro y hy hy'; rw [mem_B8] at hy hy'; exact hne (Fin.ext (hy.symm.trans hy'))
theorem B8_cover : (Finset.univ : Finset (Fin 8)).biUnion B8 = Finset.univ := by
  ext y; simp only [Finset.mem_biUnion, Finset.mem_univ, true_and, iff_true]
  exact ⟨(⟨(y 0).val / 1024, by have h : (y 0).val < 8192 := (y 0).isLt; omega⟩ : Fin 8), by rw [mem_B8]⟩
theorem xblk_set (n : Fin 2) (b : Fin 4) (B : Fin 8) (h : B.val = 4 * n.val + b.val) : (xblk (core n) b).view.set = B8 B := by
  refine (View.set_slice_whole _ _).trans ?_
  have e : blkOff (core n) b = B8off B := by show ![1024 * (4 * n.val + b.val), 0] = ![1024 * B.val, 0]; rw [h]
  ext y
  rw [Rect.mem_set_unit, Rect.mem_set_unit]
  show (∀ a, blkOff (core n) b a ≤ (y a).val ∧ (y a).val < blkOff (core n) b a + S1024x4096.size a) ↔ _
  rw [e]

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem slotP_eq (c : Dev nD) (s : Fin 2) (f) : slotP c s f = (((c : Thread nD τ).loc cc0_scoped0) ↦[S2 s]{fullShare} f : sProp 𝕄) :=
  congrArg (fun S => (_ ↦[S]{fullShare} f : sProp 𝕄)) (rslot_set s)
theorem homeP_eq (c : Dev nD) (XA : Buf (Elt F) (xM.view.loc (c : Thread nD τ))) (n : Fin 2) (b : Fin 4) (B : Fin 8) (h : B.val = 4 * n.val + b.val) :
    homeP c XA (core n) b = (((c : Thread nD τ).loc main_v0) ↦[B8 B]{fullShare} XA : sProp 𝕄) :=
  congrArg (fun S => (_ ↦[S]{fullShare} XA : sProp 𝕄)) (xblk_set n b B h)

theorem sep8 (a b c d e f g h : sProp 𝕄) : iprop(a ∗ b ∗ c ∗ d ∗ e ∗ f ∗ g ∗ h) = iprop((a ∗ b ∗ c ∗ d) ∗ e ∗ f ∗ g ∗ h) := by
  have assoc : ∀ P Q R : sProp 𝕄, iprop((P ∗ Q) ∗ R) = iprop(P ∗ Q ∗ R) := fun P Q R => BI.equiv_iff.mp ⟨Idealize.SL.BI.sep_assoc, Idealize.SL.BI.sep_assoc'⟩
  rw [assoc, assoc, assoc]

/-- The tokens whole are the two cores' blocks. -/
theorem x_eq (c : Dev nD) (XA : Buf (Elt F) (xM.view.loc (c : Thread nD τ))) :
    (((c : Thread nD τ).loc main_v0) ↦{fullShare} XA : sProp 𝕄)
      = iprop(bigSep Finset.univ (homeP c XA (core 0)) ∗ bigSep Finset.univ (homeP c XA (core 1))) := by
  rw [Ring.pointsTo_blocks (ℓ := (c : Thread nD τ).loc main_v0) B8 B8_disjoint B8_cover, bigSep_fin8, bigSep_fin4, bigSep_fin4, sep8,
    homeP_eq c XA 0 0 0 rfl, homeP_eq c XA 0 1 1 rfl, homeP_eq c XA 0 2 2 rfl, homeP_eq c XA 0 3 3 rfl,
    homeP_eq c XA 1 0 4 rfl, homeP_eq c XA 1 1 5 rfl, homeP_eq c XA 1 2 6 rfl, homeP_eq c XA 1 3 7 rfl]

theorem buf_split (c : Dev nD) :
    iprop(∃ f : Buf (Elt F) ((c : Thread nD τ).loc cc0_scoped0), ((c : Thread nD τ).loc cc0_scoped0) ↦{fullShare} f)
      ⊢ (iprop((∃ f, slotP c 0 f) ∗ ∃ f, slotP c 1 f) : sProp 𝕄) := by
  iintro ⟨%f, H⟩
  ihave H2 := (ofEq ((Ring.pointsTo_blocks (Ix := Unit) (Name := ℕ) (U := UU nD τ) (Lvl := ℕ) (q := fullShare) (ℓ := (c : Thread nD τ).loc cc0_scoped0) S2 S2_disjoint S2_cover f).trans (bigSep_fin2 _))) $$ H
  icases H2 with ⟨H0, H1⟩
  isplitl [H0]
  · iexists f; iapply (ofEq (slotP_eq c 0 f).symm); iexact H0
  · iexists f; iapply (ofEq (slotP_eq c 1 f).symm); iexact H1
theorem buf_join (c : Dev nD) :
    iprop((∃ f, slotP c 0 f) ∗ ∃ f, slotP c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) S2 S2_disjoint S2_cover f0)
  irw [bigSep_fin2]
  isplitl [H0]
  · iexists f0; iapply (ofEq (slotP_eq c 0 f0)); iexact H0
  · iexists f1; iapply (ofEq (slotP_eq c 1 f1)); iexact H1

/-- A buffer held whole, as the body and as the launch name it. -/
theorem whole_eq (c : Dev nD) (b : Ref sig .tc) (f : Buf (Elt F) ((c : Thread nD τ).loc b)) :
    ((View.whole b : View sig .tc _ _ _).loc (c : Thread nD τ) ↦[(View.whole b : View sig .tc _ _ _).set]{fullShare} f : sProp 𝕄)
      = (((c : Thread nD τ).loc b) ↦{fullShare} f : sProp 𝕄) :=
  congrArg (fun S => (_ ↦[S]{fullShare} f : sProp 𝕄)) (View.set_whole b)

end Cert.Proof.Run

end
-- ==== Proof.Main.lean ====
/-
  THE RUN. The two cores' runs one after the other. `run_main`: every execution of @main ends, the arguments are
  unchanged, the three results hold `out0`, `out1`, `out2` of the reshaped tokens and the weights, every semaphore is
  at zero.
-/
module

public import proofs.«01_k».proof.Proof.Launch

@[expose] public section

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The tokens, one row each, and the weights, as the kernel finds them. -/
abbrev XV (c : Dev nD) : Buf (Elt F) (xM.view.loc (c : Thread nD τ)) := Gen.V m c main_v0
abbrev WV (c : Dev nD) : Buf (Elt F) (wSrc.view.loc (c : Thread nD τ)) := Gen.V m c main_arg1

/-- What is held before the run of core `t` (and after that of core `t - 1`). -/
def Φ (c : Dev nD) (t : ℕ) : sProp 𝕄 :=
  iprop((((c : Thread nD τ).loc main_arg0) ↦{fullShare} Gen.V m c main_arg0)
    ∗ (bigSep Finset.univ (homeP c (XV m c) (core 0)) ∗ bigSep Finset.univ (homeP c (XV m c) (core 1)))
    ∗ srcP c (WV m c) ∗ bufsP c ∗ cellsP c ∗ resP c (XV m c) (WV m c) t)

def dats (_ : Fin 1) (c : Dev nD) : Dat τ (Elt F) Unit ℕ (UU nD τ) ℕ cfg0 c where
  A w := Gen.V m c (Pipeline.arrRef (cfg0.spec) w)
  after w _ := Fin.elim0 w
  Φ t := Φ m c t.val
  q _ := fullShare
  owed _ := 0

theorem bigSep_none (f : Fin cfg0.W → sProp 𝕄) : bigSep Finset.univ f = iprop(emp) := by
  rw [show (Finset.univ : Finset (Fin cfg0.W)) = ∅ from rfl, BI.bigSep_empty]; rfl

theorem defs_tc : (defs₀ (F := F)) .tc cfg0.body = fun a => bodyG (F := F) (grid0.coords a.1) := rfl

theorem step (c : Dev nD) (n : Fin 2) (W) (Q : PUnit → sProp 𝕄) :
    iprop((Φ m c n.val ∗ owes (c : Thread nD τ) 0 W) ∗ ((Φ m c (n.val + 1) ∗ ∃ W, owes (c : Thread nD τ) 0 W) -∗ Q ⟨⟩))
      ⊢ wp frame (wpE (defs₀ (F := F)) 𝒱₀ (c : Thread nD τ) none) Set.univ (bodyG (F := F) (core n)) Q := by
  unfold Φ
  rcases (by omega : n = 0 ∨ n = 1) with rfl | rfl
  · iintro ⟨⟨⟨Ha, ⟨Hx, Hx'⟩, Hs, Hb, Hc, Hr⟩, HW⟩, Hk⟩
    iapply (bodyRun c (XV m c) (core 0) (WV m c) W Q)
    isplitl [Hx Hs Hb Hc Hr HW]
    · isplitl [Hx]; · iexact Hx
      isplitl [Hs]; · iexact Hs
      isplitl [Hb]; · iexact Hb
      isplitl [Hc]; · iexact Hc
      isplitl [Hr]; · iexact Hr
      iexact HW
    · iintro ⟨Hx, Hs, Hb, Hc, Hr, HW⟩
      iapply Hk
      isplitr [HW]
      · isplitl [Ha]; · iexact Ha
        isplitl [Hx Hx']
        · isplitl [Hx]; · iexact Hx
          iexact Hx'
        isplitl [Hs]; · iexact Hs
        isplitl [Hb]; · iexact Hb
        isplitl [Hc]; · iexact Hc
        iexact Hr
      · iexact HW
  · iintro ⟨⟨⟨Ha, ⟨Hx', Hx⟩, Hs, Hb, Hc, Hr⟩, HW⟩, Hk⟩
    iapply (bodyRun c (XV m c) (core 1) (WV m c) W Q)
    isplitl [Hx Hs Hb Hc Hr HW]
    · isplitl [Hx]; · iexact Hx
      isplitl [Hs]; · iexact Hs
      isplitl [Hb]; · iexact Hb
      isplitl [Hc]; · iexact Hc
      isplitl [Hr]; · iexact Hr
      iexact HW
    · iintro ⟨Hx, Hs, Hb, Hc, Hr, HW⟩
      iapply Hk
      isplitr [HW]
      · isplitl [Ha]; · iexact Ha
        isplitl [Hx Hx']
        · isplitl [Hx']; · iexact Hx'
          iexact Hx
        isplitl [Hs]; · iexact Hs
        isplitl [Hb]; · iexact Hb
        isplitl [Hc]; · iexact Hc
        iexact Hr
      · iexact HW

theorem coords_eq (t : Fin cfg0.N) : ∃ n : Fin 2, grid0.coords t = core n ∧ n.val = t.val := by
  revert t; decide

set_option backward.isDefEq.respectTransparency.types false in
theorem body_obligation (c : Dev nD) : BodyObligation (dats (F := F) m 0 c) (defs₀ (F := F)) 𝒱₀ () Set.univ := fun t => by
  obtain ⟨n, hn, hv⟩ := coords_eq t
  rw [bigSep_none, bigSep_none]
  rw [show (dats m 0 c).Φ t.castSucc = Φ m c n.val from by rw [hv]; rfl, show (dats m 0 c).Φ t.succ = Φ m c (n.val + 1) from by rw [hv]; rfl]
  unfold Dat.owesAt Pipeline.owesWithin
  rw [show (dats m 0 c).owed t.castSucc = 0 from rfl, show (dats m 0 c).owed t.succ = 0 from rfl]
  have hprog : (defs₀ (F := F)) .tc cfg0.body (cfg0.bodyArgs t (cfg0.slots t)) = bodyG (F := F) (core n) := by rw [defs_tc, ← hn]
  iintro ⟨HΦ, ⟨%W, -, HW⟩, -⟩
  sl_rw [hprog]
  iapply (step m c n W)
  isplitl [HΦ HW]
  · isplitl [HΦ]; · iexact HΦ
    iexact HW
  · iintro ⟨HΦ, ⟨%W', HW⟩⟩
    isplitl [HΦ]; · iexact HΦ
    isplitl [HW]
    · iexists W'; isplitr; · ipureintro; exact fun _ _ => Or.inl trivial
      iexact HW
    iempintro

/-! ## The run -/

/-- What the region's buffers outside the kernel's own hold at the end, and what they start with. -/
def argsP (c : Dev nD) (t : ℕ) : sProp 𝕄 :=
  iprop((((c : Thread nD τ).loc main_arg0) ↦{fullShare} Gen.V m c main_arg0) ∗ (((c : Thread nD τ).loc main_arg1) ↦{fullShare} Gen.V m c main_arg1)
    ∗ (((c : Thread nD τ).loc main_v0) ↦{fullShare} Gen.V m c main_v0) ∗ resP c (XV m c) (WV m c) t)

def u₀ : UU nD τ := (initOf (Pipeline.cells cfgs Cert.KernelIdeal.Gen.cellOf_inj) (Pipeline.launchToks cfgs Cert.KernelIdeal.Gen.cellOf_inj), 1)

/-- The final memory: the results computed, the arguments as the region found them. -/
def QY (c : Dev nD) (s : MemSt nD τ sig (Elt F)) : Prop :=
  s.mem ((c : Thread nD τ).loc main_v1_0) = out0 (XV m c) (WV m c)
  ∧ s.mem ((c : Thread nD τ).loc main_v1_1) = out1 (XV m c) (WV m c)
  ∧ s.mem ((c : Thread nD τ).loc main_v1_2) = out2 (XV m c) (WV m c)
  ∧ s.mem ((c : Thread nD τ).loc main_arg0) = Gen.V m c main_arg0
  ∧ s.mem ((c : Thread nD τ).loc main_arg1) = Gen.V m c main_arg1

theorem scoped_in (c : Dev nD) : (Pipeline.scopedRest (Ix := Unit) (Name := ℕ) (U := UU nD τ) (Lvl := ℕ) (Val := Elt F) (cfg0.spec) c : sProp 𝕄) ⊢ bufsP c := by
  rw [scopedRest0_eq]
  iintro ⟨⟨%f0, H0⟩, ⟨%f1, H1⟩, ⟨%f2, H2⟩, Hb, ⟨%fw, Hw⟩, ⟨%fc, Hc⟩⟩
  ihave Hs := (buf_split c) $$ Hb
  icases Hs with ⟨Hs0, Hs1⟩
  isplitl [Hs0]; · iexact Hs0
  isplitl [Hs1]; · iexact Hs1
  isplitl [Hw]; · iexists fw; iapply (ofEq (whole_eq c cc0_scoped2 fw).symm); iexact Hw
  isplitl [H0]; · iexists f0; iapply (ofEq (whole_eq c cc0_scratch0 f0).symm); iexact H0
  isplitl [H1]; · iexists f1; iapply (ofEq (whole_eq c cc0_scratch1 f1).symm); iexact H1
  isplitl [H2]; · iexists f2; iapply (ofEq (whole_eq c cc0_scratch2 f2).symm); iexact H2
  iexists fc; iapply (ofEq (whole_eq c cc0_scratch3 fc).symm); iexact Hc

theorem scoped_out (c : Dev nD) : bufsP c ⊢ (Pipeline.scopedRest (Ix := Unit) (Name := ℕ) (U := UU nD τ) (Lvl := ℕ) (Val := Elt F) (cfg0.spec) c : sProp 𝕄) := by
  rw [scopedRest0_eq]
  iintro ⟨Hs0, Hs1, ⟨%fw, Hw⟩, ⟨%f0, H0⟩, ⟨%f1, H1⟩, ⟨%f2, H2⟩, ⟨%fc, Hc⟩⟩
  isplitl [H0]; · iexists f0; iapply (ofEq (whole_eq c cc0_scratch0 f0)); iexact H0
  isplitl [H1]; · iexists f1; iapply (ofEq (whole_eq c cc0_scratch1 f1)); iexact H1
  isplitl [H2]; · iexists f2; iapply (ofEq (whole_eq c cc0_scratch2 f2)); iexact H2
  isplitl [Hs0 Hs1]
  · iapply (buf_join c)
    isplitl [Hs0]; · iexact Hs0
    iexact Hs1
  isplitl [Hw]; · iexists fw; iapply (ofEq (whole_eq c cc0_scoped2 fw)); iexact Hw
  iexists fc; iapply (ofEq (whole_eq c cc0_scratch3 fc)); iexact Hc

theorem good_zero (c : Dev nD) (h0 h1 h2) : Good c (XV m c) (WV m c) 0 h0 h1 h2 := ⟨done_zero _ _, done_zero _ _, done_zero _ _⟩

set_option backward.isDefEq.respectTransparency.types false in
/-- Every execution of @main from a memory with zero counters ends, with `QY` on every core and every semaphore at
    zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ _ => rfl)
    (X := fun c => iprop(argsP m c 0 ∗ Pipeline.ownSems0 osem c)) (Y := fun c => argsP m c 2) (Z := fun _ => iprop(emp))
    (hX := fun c => by
      rw [unscopedRest0_eq]
      unfold argsP
      iintro ⟨⟨H0, H1, H2, H3, H4, H5⟩, HS, -, -, -⟩; imodintro
      isplitl
      · isplitr [HS]
        · isplitl [H0]; · iexact H0
          isplitl [H1]; · iexact H1
          isplitl [H2]; · iexact H2
          iexists _, _, _
          isplitr; swap
          · isplitl [H3]; · iapply (ofEq (whole_eq c main_v1_0 _).symm); iexact H3
            isplitl [H4]; · iapply (ofEq (whole_eq c main_v1_1 _).symm); iexact H4
            iapply (ofEq (whole_eq c main_v1_2 _).symm); iexact H5
          · ipureintro; exact good_zero m c _ _ _
        · iexact HS
      iempintro)
    (hin := fun c => by
      rw [show (dats m 0 c).Φ 0 = Φ m c 0 from rfl, ownSems0_eq]
      unfold argsP Φ
      rw [x_eq]
      iintro ⟨⟨⟨H0, H1, H2, Hr⟩, Hc⟩, Hb⟩
      isplitl [H0]; · iexact H0
      isplitl [H2]; · iexact H2
      isplitl [H1]; · iapply (ofEq (whole_eq c main_arg1 _).symm); iexact H1
      isplitl [Hb]; · iapply (scoped_in c); iexact Hb
      isplitl [Hc]; · iexact Hc
      iexact Hr)
    (hout := fun c => by
      rw [show (dats m 0 c).Φ (Fin.last cfg0.N) = Φ m c 2 from rfl, ownSems0_eq]
      unfold argsP Φ
      rw [x_eq]
      iintro ⟨H0, H2, H1, Hb, Hc, Hr⟩
      isplitl [H0 H1 H2 Hr]
      · isplitl [H0]; · iexact H0
        isplitl [H1]; · iapply (ofEq (whole_eq c main_arg1 _)); iexact H1
        isplitl [H2]; · iexact H2
        iexact Hr
      isplitl [Hc]; · iexact Hc
      iapply (scoped_out c); iexact Hb)
    (QY := QY m)
    (hY := fun c s' => by
      unfold argsP
      iintro ⟨⟨H0, H1, -, ⟨%y0, %y1, %y2, %hG, HY0, HY1, HY2⟩⟩, -, HSI⟩
      ihave HY0' := (ofEq (whole_eq c main_v1_0 y0)) $$ HY0
      ihave HY1' := (ofEq (whole_eq c main_v1_1 y1)) $$ HY1
      ihave HY2' := (ofEq (whole_eq c main_v1_2 y2)) $$ HY2
      icombine HSI H0 gives %h0
      icombine HSI H1 gives %h1
      icombine HSI HY0' gives %k0
      icombine HSI HY1' gives %k1
      icombine HSI HY2' gives %k2
      imodintro
      isplitr
      · ipureintro
        exact ⟨(Buf.eq_of_forall_mem_univ k0).trans (done_all hG.1), (Buf.eq_of_forall_mem_univ k1).trans (done_all hG.2.1),
          (Buf.eq_of_forall_mem_univ k2).trans (done_all hG.2.2), Buf.eq_of_forall_mem_univ h0, Buf.eq_of_forall_mem_univ h1⟩
      iexact HSI)
    (hQ := fun _ hh hz => ⟨fun c => (hh c).2, hz⟩)

end Cert.Proof.Run

end
-- ==== Proof.Frames.lean ====
/-
  THE FRAMES. The kernel and its idealization have one text, so the one run of `Main` serves both; the reference's
  run is read back from its list of host operations.
-/
module

public import proofs.«01_k».proof.Defs
public import proofs.«01_k».proof.Proof.Gen.Kernel
public import proofs.«01_k».proof.Proof.Gen.ReferenceIdeal.Run
public import proofs.«01_k».proof.Proof.Main
public import Idealize.ShloMosaic.Lib.QuiescentFlight

@[expose] public section

noncomputable section

namespace Cert.Proof.Frames

open Idealize.ShloMosaic Idealize.SL.Sem

/-- The kernel's frame over the machine's words. -/
theorem frame_kernel : Cert.quiescent_Kernel (hKernel := Cert.Kernel.Gen.facts) := fun m ρ _ =>
  (θ_run (Cert.KernelIdeal.defs (F := Bits)) _ _).mono
    (fun _ h => ⟨fun c => ⟨(h.1 c).2.2.2.1.trans (Cert.KernelIdeal.Gen.V_main_arg0 (F := Bits) m c),
      (h.1 c).2.2.2.2.trans (Cert.KernelIdeal.Gen.V_main_arg1 (F := Bits) m c)⟩, h.2⟩)
    (Cert.Proof.Run.run_main (F := Bits) m ρ)

/-- The same over the extended reals. -/
theorem frame_kernelIdeal : Cert.quiescent_KernelIdeal (hKernelIdeal := Cert.KernelIdeal.Gen.facts) := fun m ρ _ =>
  (θ_run (Cert.KernelIdeal.defs (F := Ideal)) _ _).mono
    (fun _ h => ⟨fun c => ⟨(h.1 c).2.2.2.1.trans (Cert.KernelIdeal.Gen.V_main_arg0 (F := Ideal) m c),
      (h.1 c).2.2.2.2.trans (Cert.KernelIdeal.Gen.V_main_arg1 (F := Ideal) m c)⟩, h.2⟩)
    (Cert.Proof.Run.run_main (F := Ideal) m ρ)

/-- The reference's frame: its program declares no semaphore, so every counter stays at zero. -/
theorem frame_referenceIdeal : Cert.quiescent_ReferenceIdeal (hReferenceIdeal := Cert.ReferenceIdeal.Gen.facts) := fun m ρ _ =>
  (θ_run (Cert.ReferenceIdeal.defs (F := Ideal)) _ _).mono
    (fun r h => ⟨fun c => ⟨(h c).2.2.2.1, (h c).2.2.2.2⟩, sem_eq_zero_of_no_sems (by decide) r.2⟩)
    (Cert.ReferenceIdeal.Value.run (F := Ideal) m ρ)

end Cert.Proof.Frames

end
-- ==== Proof.Row.lean ====
/-
  ONE ROW OF SIXTEEN EXTENDED REALS. Its greatest entry, the place where that stands first, the row with that place
  struck out, and the softmax of a row. Then two readings: a fold of signed minima over the places where a condition
  holds is the first such place, and the first two places of a stable descending sort are the two found by maximum.
-/
module

public import Idealize.ShloMosaic.Lib.SortPrefix
public import Idealize.ShloMosaic.PureOps.Ideal.Laws
public import Idealize.ShloMosaic.Lib.WordArith

@[expose] public section

noncomputable section

namespace Cert.Proof.Row

open Idealize.ShloMosaic

/-- The greatest entry of a row. -/
def top (p : Fin 16 → EReal) : EReal := (Finset.univ : Finset (Fin 16)).fold max ⊥ p

theorem le_top (p : Fin 16 → EReal) (k : Fin 16) : p k ≤ top p :=
  (Finset.le_fold_max _).mpr (.inr ⟨k, Finset.mem_univ k, le_rfl⟩)

theorem top_le {p : Fin 16 → EReal} {c : EReal} (h : ∀ k, p k ≤ c) : top p ≤ c :=
  (Finset.fold_max_le _).mpr ⟨bot_le, fun k _ => h k⟩

/-- Some entry is the greatest. -/
theorem exists_top (p : Fin 16 → EReal) : ∃ k, p k = top p := by
  obtain ⟨k, -, hk⟩ := Finset.exists_max_image (Finset.univ : Finset (Fin 16)) p ⟨0, Finset.mem_univ 0⟩
  exact ⟨k, le_antisymm (le_top p k) (top_le fun j => hk j (Finset.mem_univ j))⟩

/-- The first place of the greatest entry. -/
def first (p : Fin 16 → EReal) : Fin 16 :=
  (Finset.univ.filter fun k => p k = top p).min' (by
    obtain ⟨k, hk⟩ := exists_top p
    exact ⟨k, by simp [hk]⟩)

theorem at_first (p : Fin 16 → EReal) : p (first p) = top p := by
  have h := Finset.min'_mem (Finset.univ.filter fun k => p k = top p) (by
    obtain ⟨k, hk⟩ := exists_top p
    exact ⟨k, by simp [hk]⟩)
  exact (Finset.mem_filter.mp h).2

theorem first_le {p : Fin 16 → EReal} {k : Fin 16} (h : p k = top p) : first p ≤ k :=
  Finset.min'_le _ _ (by simp [h])

/-- The row with the first place of its greatest entry struck out. -/
def rest (p : Fin 16 → EReal) : Fin 16 → EReal := fun k => if k = first p then ⊥ else p k

theorem rest_first (p : Fin 16 → EReal) : rest p (first p) = ⊥ := if_pos rfl
theorem rest_ne {p : Fin 16 → EReal} {k : Fin 16} (h : k ≠ first p) : rest p k = p k := if_neg h

/-- Some place is not the first of the greatest entry. -/
theorem exists_ne (p : Fin 16 → EReal) : ∃ k, k ≠ first p := by
  by_cases h : first p = 0
  · exact ⟨1, by rw [h]; decide⟩
  · exact ⟨0, fun e => h e.symm⟩

/-- Where no entry is −∞, the greatest of the rest is not at the place that was struck out. -/
theorem second_ne {p : Fin 16 → EReal} (hp : ∀ k, ⊥ < p k) : first (rest p) ≠ first p := by
  intro e
  obtain ⟨k, hk⟩ := exists_ne p
  have h1 : rest p (first (rest p)) = ⊥ := by rw [e]; exact rest_first p
  have h2 := le_top (rest p) k
  rw [← at_first, h1, rest_ne hk] at h2
  exact absurd h2 (not_le.mpr (hp k))

/-- The softmax of a row. -/
def soft (l : Fin 16 → EReal) : Fin 16 → EReal :=
  fun k => Ideal.div (Ideal.exp (l k - top l)) (∑ j, Ideal.exp (l j - top l))

/-! ## The first place found by signed minima -/

theorem toInt_minsi (x y : BitVec 32) : (IntOp.minsi x y).toInt = min x.toInt y.toInt := by
  unfold IntOp.minsi
  by_cases h : x.slt y
  · rw [if_pos h]; rw [BitVec.slt_iff_toInt_lt] at h; exact (min_eq_left h.le).symm
  · rw [if_neg h]; rw [BitVec.slt_iff_toInt_lt, not_lt] at h; exact (min_eq_right h).symm

theorem toInt_ofNat_place (k : Fin 16) : (BitVec.ofNat 32 k.val).toInt = (k.val : ℤ) := by
  revert k; decide

/-- The least of the places where `c` holds, others counting as 16, is the least place where `c` holds. -/
theorem fold_minsi (c : Fin 16 → Prop) [DecidablePred c] (a : Fin 16) (ha : c a) (hmin : ∀ k, c k → a ≤ k) :
    (Finset.univ : Finset (Fin 16)).fold IntOp.minsi 2147483647#32 (fun k => if c k then BitVec.ofNat 32 k.val else 16#32)
      = BitVec.ofNat 32 a.val := by
  apply BitVec.eq_of_toInt_eq
  rw [← Finset.fold_hom (op := IntOp.minsi) (op' := min) (m := BitVec.toInt) toInt_minsi, toInt_ofNat_place]
  refine le_antisymm ((Finset.fold_min_le _).mpr (.inr ⟨a, Finset.mem_univ a, ?_⟩)) ((Finset.le_fold_min _).mpr ⟨?_, fun k _ => ?_⟩)
  · rw [if_pos ha, toInt_ofNat_place]
  · have := a.isLt; show (a.val : ℤ) ≤ 2147483647; omega
  · by_cases hk : c k
    · rw [if_pos hk, toInt_ofNat_place]; exact_mod_cast hmin k hk
    · rw [if_neg hk]; have := a.isLt; show (a.val : ℤ) ≤ 16; omega

/-! ## The first two places of a stable descending sort -/

/-- A stable insertion sort of places in ascending order asks only whether a later place goes before an earlier one. -/
theorem stableSort_congr_later {ι : Type} [LinearOrder ι] (R R' : ι → ι → Bool) (h : ∀ a b, a < b → R b a = R' b a) :
    ∀ l : List ι, l.Pairwise (· < ·) → stableSort R l = stableSort R' l
  | [], _ => rfl
  | a :: l, hl => by
    rw [List.pairwise_cons] at hl
    unfold stableSort
    rw [stableSort_congr_later R R' h l hl.2]
    exact insertBefore_congr R R' a _ fun b hb => h a b (hl.1 b ((perm_stableSort R' l).mem_iff.mp hb))

/-- Greater first, and the earlier place first among equals. -/
def before (p : Fin 16 → EReal) (k k' : Fin 16) : Bool := decide (p k' < p k) || (decide (p k = p k') && decide (k < k'))

theorem before_total (p : Fin 16 → EReal) : StrictTotalBefore (before p) := by
  classical
  exact StrictTotalBefore.of_key_then_position (fun a b : EReal => decide (b < a)) p
    (fun a => by simp) (fun a b c hab hbc => by simp only [decide_eq_true_eq] at *; exact hbc.trans hab)
    (fun a b => by
      simp only [decide_eq_true_eq]
      rcases lt_trichotomy a b with h | h | h
      · exact .inr (.inr h)
      · exact .inr (.inl h)
      · exact .inl h)

/-- So a stable sort of positions depends on those questions alone. -/
theorem sortedFrom_congr_later {n : ℕ} (R R' : Fin n → Fin n → Bool) (h : ∀ a b, a < b → R b a = R' b a) (k : Fin n) :
    sortedFrom R k = sortedFrom R' k := by
  have e : sortPositions n R = sortPositions n R' := stableSort_congr_later R R' h _ (List.pairwise_lt_finRange n)
  unfold sortedFrom
  rw [List.get_of_eq e]
  rfl

/-- The stable sort by "greater" is the sort by "greater, then earlier". -/
theorem sortedFrom_greater (p : Fin 16 → EReal) (k : Fin 16) :
    sortedFrom (fun a b => decide (p b < p a)) k = sortedFrom (before p) k :=
  sortedFrom_congr_later _ _ (fun a b hab => by unfold before; simp [not_lt.mpr hab.le]) k

/-- The two places found by maximum. -/
def two (p : Fin 16 → EReal) (j : Fin 2) : Fin 16 := if j = 0 then first p else first (rest p)

/-- They are the first two of the sort, where no entry is −∞. -/
theorem sortedFrom_two {p : Fin 16 → EReal} (hp : ∀ k, ⊥ < p k) (j : Fin 2) :
    sortedFrom (fun a b => decide (p b < p a)) (j.castLE (by decide)) = two p j := by
  have hne := second_ne hp
  have hfirst : ∀ q, before p q (first p) = false := fun q => by
    have h1 : ¬ p (first p) < p q := not_lt.mpr ((le_top p q).trans_eq (at_first p).symm)
    have h2 : ¬ (p q = p (first p) ∧ q < first p) := fun ⟨e, hlt⟩ => absurd (first_le (e.trans (at_first p))) (not_le.mpr hlt)
    unfold before
    simp only [Bool.or_eq_false_iff, Bool.and_eq_false_iff, decide_eq_false_iff_not]
    exact ⟨h1, by rw [← not_and_or]; exact h2⟩
  have hsecond : ∀ q, q ≠ first p → before p q (first (rest p)) = false := fun q hq => by
    have e2 : p (first (rest p)) = top (rest p) := (rest_ne hne).symm.trans (at_first _)
    have h1 : ¬ p (first (rest p)) < p q := by
      rw [e2]; exact not_lt.mpr (rest_ne hq ▸ le_top (rest p) q)
    have h2 : ¬ (p q = p (first (rest p)) ∧ q < first (rest p)) := fun ⟨e, hlt⟩ =>
      absurd (first_le (((rest_ne hq).trans e).trans e2)) (not_le.mpr hlt)
    unfold before
    simp only [Bool.or_eq_false_iff, Bool.and_eq_false_iff, decide_eq_false_iff_not]
    exact ⟨h1, by rw [← not_and_or]; exact h2⟩
  rw [sortedFrom_greater]
  refine (before_total p).sortedFrom_eq_of_prefix (by decide) (two p) ?_ ?_ ?_ j
  · intro a b hab
    fin_cases a <;> fin_cases b <;> simp_all [two]
  · intro a b hab
    fin_cases a <;> fin_cases b <;> simp_all [two]
  · intro a q hq
    fin_cases a
    · exact hfirst q
    · exact hsecond q fun e => hq 0 e.symm

end Cert.Proof.Row

end
-- ==== Proof.KernelRow.lean ====
/-
  WHAT THE KERNEL COMPUTES OF ONE ROW of a block: its payloads read at an index, over the extended reals.
-/
module

public import proofs.«01_k».proof.Proof.Blocks
public import proofs.«01_k».proof.Proof.Row
public import Idealize.ShloMosaic.Lib.Pointwise

@[expose] public section

noncomputable section

namespace Cert.Proof.KernelRow

open Cert.KernelIdeal Cert.KernelIdeal.Gen
open Idealize.ShloMosaic
open Cert.Proof.Row

theorem ofBits_neg_inf : Ideal.ofBits .f32 0xFF800000#32 = ⊥ := by simp [Ideal.ofBits, Ideal.ieee]

variable (v : Vec Ideal S1x1024x4096 .f32) (w : Vec Ideal S16x4096 .f32)

/-- The products of one row of the block with the sixteen rows of the weights. -/
def logits (r : Fin 1024) : Fin 16 → EReal := fun k => ∑ d : Fin 4096, v (ix3 0 r d) * w (ix2 k d)

/-- One row's softmax weights. -/
def weights (r : Fin 1024) : Fin 16 → EReal := soft (logits v w r)

theorem pay1_apply (r : Fin 1024) (k : Fin 16) : k0_pay1 v w (ix2 r k) = weights v w r k := by
  unfold weights soft top logits
  rw [← ofBits_neg_inf]
  pointwise [k0_pay1]

theorem pay2_apply (r : Fin 1024) (k : Fin 16) : k0_pay2 v w (ix2 r k) = weights v w r k := by
  rw [← pay1_apply]
  pointwise [k0_pay2]

theorem pay3_apply (r : Fin 1024) : k0_pay3 v w (ix2 r 0) = top (weights v w r) := by
  have h : (fun k => k0_pay1 v w (ix2 r k)) = weights v w r := funext fun k => pay1_apply v w r k
  rw [← h]
  unfold top
  rw [← ofBits_neg_inf]
  pointwise [k0_pay3]

theorem pay4_apply (r : Fin 1024) : k0_pay4 v w (ix2 r 0) = BitVec.ofNat 32 (first (weights v w r)).val := by
  rw [← fold_minsi (fun k => weights v w r k = top (weights v w r)) _ (at_first _) (fun k h => first_le h)]
  simp only [← pay1_apply, ← pay3_apply]
  pointwise [k0_pay4]

theorem pay5_apply (r : Fin 1024) (k : Fin 16) : k0_pay5 v w (ix2 r k) = rest (weights v w r) k := by
  unfold rest
  rw [← pay1_apply, ← ofBits_neg_inf]
  pointwise [k0_pay5]
  rw [pay4_apply]
  have hc : (BitVec.ofNat 32 k.val = BitVec.ofNat 32 (first (weights v w r)).val) = (k = first (weights v w r)) :=
    propext ⟨fun h => Fin.ext (by
      have h1 := congrArg BitVec.toInt h
      rw [toInt_ofNat_place, toInt_ofNat_place] at h1
      exact_mod_cast h1), fun h => by rw [h]⟩
  by_cases hk : k = first (weights v w r)
  · have h1 : IntOp.cmpi .eq (BitVec.ofNat 32 k.val) (BitVec.ofNat 32 (first (weights v w r)).val) = 1#1 :=
      congrArg BitVec.ofBool (beq_iff_eq.mpr (hc ▸ hk))
    rw [if_pos hk, h1]; rfl
  · have h0 : IntOp.cmpi .eq (BitVec.ofNat 32 k.val) (BitVec.ofNat 32 (first (weights v w r)).val) = 0#1 :=
      congrArg BitVec.ofBool (beq_eq_false_iff_ne.mpr fun h => hk (hc ▸ h))
    rw [if_neg hk, h0]; rfl

theorem pay6_apply (r : Fin 1024) : k0_pay6 v w (ix2 r 0) = top (rest (weights v w r)) := by
  have h : (fun k => k0_pay5 v w (ix2 r k)) = rest (weights v w r) := funext fun k => pay5_apply v w r k
  rw [← h]
  unfold top
  rw [← ofBits_neg_inf]
  pointwise [k0_pay6]

theorem pay8_apply (r : Fin 1024) (j : Fin 2) (a b : FVec Ideal S1024x1 .f32) :
    k0_pay8 a b (ix2 r j) = Ideal.div (if j = 0 then a (ix2 r 0) else b (ix2 r 0)) (a (ix2 r 0) + b (ix2 r 0)) := by
  pointwise [k0_pay8]
  match j with
  | 0 => rfl
  | 1 => rfl

theorem pay9_apply (r : Fin 1024) (j : Fin 2) :
    k0_pay9 (k0_pay4 v w) (k0_pay7 v w) (ix2 r j) = BitVec.ofNat 32 (two (weights v w r) j).val := by
  pointwise [k0_pay9, k0_pay7]
  match j with
  | 0 => exact pay4_apply v w r
  | 1 =>
    simp only [pay5_apply, pay6_apply]
    exact fold_minsi (fun k => rest (weights v w r) k = top (rest (weights v w r))) _ (at_first _) (fun k h => first_le h)

end Cert.Proof.KernelRow

end
-- ==== Proof.RefRow.lean ====
/-
  WHAT THE REFERENCE COMPUTES OF ONE ROW: its composed terms read at an index, over the extended reals.
-/
module

public import proofs.«01_k».proof.Proof.Gen.ReferenceIdeal
public import proofs.«01_k».proof.Proof.Row
public import Idealize.ShloMosaic.Lib.Pointwise
public import Idealize.ShloMosaic.Lib.StableHlo

@[expose] public section

noncomputable section

namespace Cert.Proof.RefRow

open Cert.ReferenceIdeal Cert.ReferenceIdeal.Gen
open Idealize.ShloMosaic
open Cert.Proof.Row

variable (X : FVec Ideal S8192x4096 .f32) (W : FVec Ideal S16x4096 .f32)

/-- The products of one token with the sixteen rows of the weights. -/
def logits (y : Fin 8192) : Fin 16 → EReal := fun k => ∑ d : Fin 4096, X (ix2 y d) * W (ix2 k d)

/-- All of them, as the reference forms them. -/
def prods : FVec Ideal S8192x16 .f32 :=
  Host.dotGeneral dot_S8192x4096_S4096x16_S8192x16_1_0_0_1_n_n none X (transpose S4096x16 [1, 0] W transposes_S16x4096_S4096x16_1_0)

theorem prods_apply (y : Fin 8192) (k : Fin 16) : prods X W (ix2 y k) = logits X W y k := by
  unfold logits
  pointwise [prods]

/-- The exponentials of the products less their row's maximum. -/
def exps (Q : FVec Ideal S8192x16 .f32) : FVec Ideal S8192x16 .f32 :=
  Host.exp (subf Q (broadcastInDim S8192x16 ![0, 1] bcast_S8192x1_S8192x16_0_1 (broadcastInDim S8192x1 ![0] bcast_S8192_S8192x1_0
    (maximumf (broadcastInDim S8192 ![] bcast_S_S8192 (constant S_ .f32 0xFF800000#32))
      (Host.reduce FloatOps.maximumf Q (constant S_ .f32 0xFF800000#32) reducesTo_S8192x16_S8192_d1 h_S_)))))

/-- Rows divided by their sums. -/
def overSum (E : FVec Ideal S8192x16 .f32) : FVec Ideal S8192x16 .f32 :=
  Host.divf E (broadcastInDim S8192x16 ![0, 1] bcast_S8192x1_S8192x16_0_1 (broadcastInDim S8192x1 ![0] bcast_S8192_S8192x1_0
    (Host.reduceAdd E (constant S_ .f32 0x00000000#32) reducesTo_S8192x16_S8192_d1 h_S_)))

theorem ofBits_neg_inf : Ideal.ofBits .f32 0xFF800000#32 = ⊥ := by simp [Ideal.ofBits, Ideal.ieee]

theorem exps_apply (Q : FVec Ideal S8192x16 .f32) (y : Fin 8192) (k : Fin 16) :
    exps Q (ix2 y k) = Ideal.exp (Q (ix2 y k) - top fun k => Q (ix2 y k)) := by
  unfold top
  pointwise [exps]
  rw [ofBits_neg_inf, max_eq_right bot_le]

theorem overSum_apply (E : FVec Ideal S8192x16 .f32) (y : Fin 8192) (k : Fin 16) :
    overSum E (ix2 y k) = Ideal.div (E (ix2 y k)) (∑ j : Fin 16, E (ix2 y j)) := by
  pointwise [overSum]

theorem weights_apply (y : Fin 8192) (k : Fin 16) : overSum (exps (prods X W)) (ix2 y k) = soft (logits X W y) k := by
  unfold soft
  simp only [overSum_apply, exps_apply, prods_apply]

/-- The two greatest of each row and their places. -/
def greatest (A : FVec Ideal S8192x16 .f32) : FVec Ideal S8192x2 .f32 × IVec S8192x2 32 :=
  Host.topK S8192x2 1 (FloatOps.cmpfTotal .gt) A sliceFits_S8192x16_S8192x2

/-- The places of one row in the values' order, greater first. -/
abbrev places {n : ℕ} (p : Fin n → EReal) : Fin n → Fin n := sortedFrom fun k k' => decide (p k' < p k)

/-- The comparison the reference sorts by. -/
abbrev greater (a b : EReal) : BitVec 1 := FloatOps.cmpfTotal (F := Ideal) (φ := .f32) .gt a b

theorem greater_eq (a b : EReal) : (greater a b == 1#1) = decide (b < a) := by
  show (BitVec.ofBool (decide (b < a)) == 1#1) = decide (b < a)
  by_cases h : b < a <;> simp [h]

/-- The index of one row with its second coordinate replaced. -/
theorem along_row {m n : ℕ} (y : Fin m) (c k : Fin n) : (ix2 y c : (⟨2, ![m, n]⟩ : Shape).Idx).along (1 : Fin 2) k = ix2 y k := by
  funext a
  match a with
  | 0 => rfl
  | 1 => rfl

/-- A sort of rows with a companion, read at an index: both come from the place the row's own order gives. -/
theorem sort_row {m n : ℕ} (A : (⟨2, ![m, n]⟩ : Shape).Idx → EReal) (Z : (⟨2, ![m, n]⟩ : Shape).Idx → BitVec 32) (y : Fin m)
    {p : Fin n → EReal} (hA : ∀ k, A (ix2 y k) = p k) (c : Fin n) :
    (Host.sort2 ⟨2, ![m, n]⟩ 1 (fun l r : EReal × BitVec 32 => greater l.1 r.1) A Z).1 (ix2 y c) = A (ix2 y (places p c))
      ∧ (Host.sort2 ⟨2, ![m, n]⟩ 1 (fun l r : EReal × BitVec 32 => greater l.1 r.1) A Z).2 (ix2 y c) = Z (ix2 y (places p c)) := by
  have hR : (fun k k' : Fin n => greater (A ((ix2 y c : (⟨2, ![m, n]⟩ : Shape).Idx).along (1 : Fin 2) k))
      (A ((ix2 y c : (⟨2, ![m, n]⟩ : Shape).Idx).along (1 : Fin 2) k')) == 1#1) = fun k k' => decide (p k' < p k) := by
    funext k k'
    exact (congrArg₂ (fun a b => greater a b == 1#1) ((congrArg A (along_row y c k)).trans (hA k))
      ((congrArg A (along_row y c k')).trans (hA k'))).trans (greater_eq _ _)
  have key : ∀ {β : Type} (T : (⟨2, ![m, n]⟩ : Shape).Idx → β),
      T ((ix2 y c : (⟨2, ![m, n]⟩ : Shape).Idx).along (1 : Fin 2) (sortedFrom (fun k k' : Fin n =>
        greater (A ((ix2 y c : (⟨2, ![m, n]⟩ : Shape).Idx).along (1 : Fin 2) k))
          (A ((ix2 y c : (⟨2, ![m, n]⟩ : Shape).Idx).along (1 : Fin 2) k')) == 1#1) c)) = T (ix2 y (places p c)) := fun T =>
    (congrArg (fun R : Fin n → Fin n → Bool =>
      T ((ix2 y c : (⟨2, ![m, n]⟩ : Shape).Idx).along (1 : Fin 2) (sortedFrom R c))) hR).trans (congrArg T (along_row y c _))
  exact ⟨key A, key Z⟩

/-- The greatest `q` of each row and their places, read at an index. -/
theorem topK_row {m n q : ℕ} (A : (⟨2, ![m, n]⟩ : Shape).Idx → EReal) (hs : (⟨2, ![m, n]⟩ : Shape).Slices (fun _ => 0) ⟨2, ![m, q]⟩)
    (y : Fin m) (j : Fin q) (hq : q ≤ n) {p : Fin n → EReal} (hA : ∀ k, A (ix2 y k) = p k) :
    (Host.topK ⟨2, ![m, q]⟩ 1 greater A hs).1 (ix2 y j) = p (places p (j.castLE hq))
      ∧ (Host.topK ⟨2, ![m, q]⟩ 1 greater A hs).2 (ix2 y j) = BitVec.ofNat 32 (places p (j.castLE hq)).val := by
  have e : (fun a => ⟨0 + ((ix2 y j : (⟨2, ![m, q]⟩ : Shape).Idx) (a.cast hs.1.symm)).val,
      Nat.lt_of_lt_of_le (Nat.add_lt_add_left ((ix2 y j : (⟨2, ![m, q]⟩ : Shape).Idx) _).isLt _) (hs.2 a)⟩
        : (⟨2, ![m, n]⟩ : Shape).Idx) = ix2 y (j.castLE hq) := by
    funext a
    apply Fin.ext
    match a with
    | 0 => exact Nat.zero_add _
    | 1 => exact Nat.zero_add _
  have h := sort_row A (fun i => iotaInDim (⟨2, ![m, n]⟩ : Shape) 32 (1 : Fin 2) i) y hA (j.castLE hq)
  refine ⟨?_, ?_⟩
  · exact ((congrArg (Host.sort2 (⟨2, ![m, n]⟩ : Shape) 1 (fun l r : EReal × BitVec 32 => greater l.1 r.1) A
      (fun i => iotaInDim (⟨2, ![m, n]⟩ : Shape) 32 (1 : Fin 2) i)).1 e).trans h.1).trans (hA _)
  · exact (congrArg (Host.sort2 (⟨2, ![m, n]⟩ : Shape) 1 (fun l r : EReal × BitVec 32 => greater l.1 r.1) A
      (fun i => iotaInDim (⟨2, ![m, n]⟩ : Shape) 32 (1 : Fin 2) i)).2 e).trans h.2

/-- Of the reference's rows: the values and the places are those found by maximum. -/
theorem greatest_row (A : FVec Ideal S8192x16 .f32) (y : Fin 8192) (j : Fin 2) {p : Fin 16 → EReal}
    (hA : ∀ k, A (ix2 y k) = p k) (hp : ∀ k, ⊥ < p k) :
    (greatest A).1 (ix2 y j) = p (two p j) ∧ (greatest A).2 (ix2 y j) = BitVec.ofNat 32 (two p j).val := by
  rw [← sortedFrom_two hp]
  exact topK_row A sliceFits_S8192x16_S8192x2 y j (by decide) hA

/-- Rows of two divided by the sum of their magnitudes. -/
def overMagnitude (B : FVec Ideal S8192x2 .f32) : FVec Ideal S8192x2 .f32 :=
  Host.divf B (broadcastInDim S8192x2 ![0, 1] bcast_S8192x1_S8192x2_0_1 (broadcastInDim S8192x1 ![0] bcast_S8192_S8192x1_0
    (Host.reduceAdd (Host.absf B) (constant S_ .f32 0x00000000#32) reducesTo_S8192x2_S8192_d1 h_S_)))

theorem overMagnitude_apply (B : FVec Ideal S8192x2 .f32) (y : Fin 8192) (j : Fin 2) (hB : ∀ j, 0 ≤ B (ix2 y j)) :
    overMagnitude B (ix2 y j) = Ideal.div (B (ix2 y j)) (B (ix2 y 0) + B (ix2 y 1)) := by
  have habs : ∀ j, Host.absf B (ix2 y j) = B (ix2 y j) := fun j =>
    max_eq_left ((EReal.neg_le_neg_iff.mpr (hB j)).trans (by simpa using hB j))
  have h : overMagnitude B (ix2 y j) = Ideal.div (B (ix2 y j)) (∑ k : Fin 2, Host.absf B (ix2 y k)) := by
    pointwise [overMagnitude]
  rw [h, Fin.sum_univ_two, habs, habs]

end Cert.Proof.RefRow

end
-- ==== Proof.Finite.lean ====
/-
  FINITE ARGUMENTS GIVE ORDINARY WEIGHTS: what the precondition says of the arguments' entries, and that a
  row's softmax weights are then nonnegative numbers.
-/
module

public import proofs.«01_k».proof.Pre_finite
public import proofs.«01_k».proof.Proof.Row
public import Idealize.ShloMosaic.Lib.ReduceAll
public import Idealize.ShloMosaic.Lib.Pointwise

@[expose] public section

noncomputable section

namespace Cert.Proof.Finite

open Idealize.ShloMosaic
open Cert.Proof.Row

/-- Neither infinity. -/
def Num (a : EReal) : Prop := a ≠ ⊤ ∧ a ≠ ⊥

theorem Num.eq_coe {a : EReal} (h : Num a) : a = ((a.toReal : ℝ) : EReal) := (EReal.coe_toReal h.1 h.2).symm

theorem num_of_abs_lt {a : EReal} (h : max a (-a) < ⊤) : Num a :=
  ⟨ne_of_lt ((le_max_left _ _).trans_lt h), fun e => absurd ((le_max_right a (-a)).trans_lt h) (by rw [e]; simp)⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of products of numbers is a number. -/
theorem num_dot {n : ℕ} (x w : Fin n → EReal) (hx : ∀ d, Num (x d)) (hw : ∀ d, Num (w d)) : Num (∑ d, x d * w d) := by
  have h : (∑ d, x d * w d) = ((∑ d, (x d).toReal * (w d).toReal : ℝ) : EReal) := by
    rw [coe_sum]
    refine Finset.sum_congr rfl fun d _ => ?_
    rw [EReal.coe_mul, ← (hx d).eq_coe, ← (hw d).eq_coe]
  rw [h]
  exact ⟨EReal.coe_ne_top _, EReal.coe_ne_bot _⟩

/-- The softmax weights of sixteen numbers are nonnegative. -/
theorem soft_nonneg {l : Fin 16 → EReal} (hl : ∀ k, Num (l k)) (k : Fin 16) : 0 ≤ soft l k := by
  obtain ⟨i, hi⟩ := exists_top l
  have he : ∀ j, Ideal.exp (l j - top l) = ((Real.exp ((l j).toReal - (l i).toReal) : ℝ) : EReal) := fun j => by
    rw [← hi, (hl j).eq_coe, (hl i).eq_coe, ← EReal.coe_sub, Ideal.exp_coe]
    simp
  have hpos : 0 < ∑ j, Real.exp ((l j).toReal - (l i).toReal) := Finset.sum_pos (fun j _ => Real.exp_pos _) ⟨0, Finset.mem_univ _⟩
  unfold soft
  simp only [he]
  rw [← coe_sum, Ideal.div_coe hpos.ne', ← EReal.coe_mul]
  exact EReal.coe_nonneg.mpr (mul_nonneg (Real.exp_pos _).le (one_div_nonneg.mpr hpos.le))

/-- So none of them is −∞. -/
theorem soft_gt {l : Fin 16 → EReal} (hl : ∀ k, Num (l k)) (k : Fin 16) : ⊥ < soft l k :=
  (EReal.bot_lt_coe 0).trans_le (soft_nonneg hl k)

section predicate
open Cert.Pre_finite
variable [Facts]
open Facts

theorem ofBits_inf : Ideal.ofBits .f32 0x7F800000#32 = ⊤ := by simp [Ideal.ofBits, Ideal.ieee]

theorem num_of_cmp {a : EReal} (h : (FloatOps.cmpf (F := Ideal) (φ := .f32) .olt (max a (-a)) (Ideal.ofBits .f32 0x7F800000#32)) = 1#1) : Num a := by
  rw [ofBits_inf] at h
  refine num_of_abs_lt (not_not.mp fun hn => ?_)
  have h0 : FloatOps.cmpf (F := Ideal) (φ := .f32) .olt (max a (-a)) ⊤ = 0#1 := congrArg BitVec.ofBool (decide_eq_false hn)
  exact absurd (h.symm.trans h0) (by decide)

instance : Subsingleton S_.Idx := ⟨fun a b => funext fun i => i.elim0⟩

/-- Where the precondition holds, every entry of both arguments is a number. -/
theorem num_of_pre (X : FVec Ideal S2x4096x4096 .f32) (W : FVec Ideal S16x4096 .f32) (h : fn X W = fun _ => 1#1) :
    (∀ i, Num (X i)) ∧ ∀ i, Num (W i) := by
  have h1 : ∀ a b : BitVec 1, IntOp.andi a b = 1#1 → a = 1#1 ∧ b = 1#1 := by decide
  have hj := h1 _ _ (congrFun h (fun i => i.elim0))
  exact ⟨fun i => num_of_cmp (Host.reduce_andi_all _ _ _ _ _ hj.1 i), fun i => num_of_cmp (Host.reduce_andi_all _ _ _ _ _ hj.2 i)⟩

end predicate

end Cert.Proof.Finite

end
-- ==== Proof.Values.lean ====
/-
  THE TWO PROGRAMS' RESULTS ARE EQUAL, token by token, where every entry of the arguments is a number.
-/
module

public import proofs.«01_k».proof.Proof.KernelRow
public import proofs.«01_k».proof.Proof.RefRow
public import proofs.«01_k».proof.Proof.Finite

@[expose] public section

noncomputable section

namespace Cert.Proof.Values

open Cert.KernelIdeal Cert.KernelIdeal.Gen
open Idealize.ShloMosaic
open Cert.Proof.Run Cert.Proof.Row Cert.Proof.Finite

variable (X : FVec Ideal S8192x4096 .f32) (W : FVec Ideal S16x4096 .f32)

/-- A token's place in its block. -/
abbrev rowIn (y : Fin 8192) : Fin 1024 := ⟨y.val % 1024, Nat.mod_lt _ (by decide)⟩
/-- A token's block. -/
abbrev blockAt (y : Fin 8192) : Fin 8 := ⟨y.val / 1024, by have := y.isLt; omega⟩

/-- The kernel's block holds the token's entries. -/
theorem tile_apply (y : Fin 8192) (d : Fin 4096) :
    tile (F := Ideal) X (blockAt y) (ix3 0 (rowIn y) d) = X (ix2 y d) := by
  have h : tile (F := Ideal) X (blockAt y) (ix3 0 (rowIn y) d) = blkRows (F := Ideal) X (blockAt y) (ix2 (rowIn y) d) := by
    pointwise [tile]
  rw [h]
  exact congrArg (fun z : Fin 8192 => X (ix2 z d)) (Fin.ext (Nat.div_add_mod y.val 1024))

/-- One token's softmax weights. -/
def weights (y : Fin 8192) : Fin 16 → EReal := soft (RefRow.logits X W y)

theorem weights_kernel (y : Fin 8192) : KernelRow.weights (tile (F := Ideal) X (blockAt y)) W (rowIn y) = weights X W y := by
  unfold KernelRow.weights weights
  refine congrArg soft (funext fun k => Finset.sum_congr rfl fun d _ => ?_)
  rw [tile_apply]

/-- The kernel's three results, read at a token. -/
theorem out0_apply (y : Fin 8192) (k : Fin 16) : out0 (F := Ideal) X W (ix2 y k) = weights X W y k := by
  rw [← weights_kernel]
  exact KernelRow.pay2_apply _ W (rowIn y) k

theorem out1_apply (y : Fin 8192) (j : Fin 2) : out1 (F := Ideal) X W (ix2 y j)
    = Ideal.div (if j = 0 then top (weights X W y) else top (rest (weights X W y)))
        (top (weights X W y) + top (rest (weights X W y))) := by
  rw [← weights_kernel, ← KernelRow.pay3_apply, ← KernelRow.pay6_apply]
  exact KernelRow.pay8_apply (rowIn y) j _ _

theorem out2_apply (y : Fin 8192) (j : Fin 2) : out2 (F := Ideal) X W (ix2 y j) = BitVec.ofNat 32 (two (weights X W y) j).val := by
  rw [← weights_kernel]
  exact KernelRow.pay9_apply _ W (rowIn y) j

section numbers
variable {X W} (hX : ∀ i, Num (X i)) (hW : ∀ i, Num (W i))
include hX hW

theorem num_logits (y : Fin 8192) (k : Fin 16) : Num (RefRow.logits X W y k) := num_dot _ _ (fun _ => hX _) (fun _ => hW _)

/-- The reference's weights. -/
abbrev refOut0 (X : FVec Ideal S8192x4096 .f32) (W : FVec Ideal S16x4096 .f32) : FVec Ideal S8192x16 .f32 :=
  RefRow.overSum (RefRow.exps (RefRow.prods X W))

omit hX hW in
/-- Result 1. -/
theorem out0_eq : refOut0 X W = out0 (F := Ideal) X W := by
  funext i
  obtain ⟨y, k, rfl⟩ : ∃ y k, i = ix2 y k := ⟨i 0, i 1, by funext a; match a with | 0 => rfl | 1 => rfl⟩
  rw [out0_apply]
  exact RefRow.weights_apply X W y k

theorem ref_row (y : Fin 8192) (j : Fin 2) :
    (RefRow.greatest (refOut0 X W)).1 (ix2 y j) = weights X W y (two (weights X W y) j)
      ∧ (RefRow.greatest (refOut0 X W)).2 (ix2 y j) = BitVec.ofNat 32 (two (weights X W y) j).val :=
  RefRow.greatest_row _ y j (fun k => RefRow.weights_apply X W y k) (soft_gt (num_logits hX hW y))

/-- Result 3: the experts. -/
theorem out2_eq : (RefRow.greatest (refOut0 X W)).2 = out2 (F := Ideal) X W := by
  funext i
  obtain ⟨y, j, rfl⟩ : ∃ y j, i = ix2 y j := ⟨i 0, i 1, by funext a; match a with | 0 => rfl | 1 => rfl⟩
  rw [out2_apply]
  exact (ref_row hX hW y j).2

/-- Result 2: their weights. -/
theorem out1_eq : RefRow.overMagnitude (RefRow.greatest (refOut0 X W)).1 = out1 (F := Ideal) X W := by
  funext i
  obtain ⟨y, j, rfl⟩ : ∃ y j, i = ix2 y j := ⟨i 0, i 1, by funext a; match a with | 0 => rfl | 1 => rfl⟩
  have h0 : weights X W y (two (weights X W y) 0) = top (weights X W y) := at_first _
  have h1 : weights X W y (two (weights X W y) 1) = top (rest (weights X W y)) :=
    (rest_ne (second_ne (soft_gt (num_logits hX hW y)))).symm.trans (at_first _)
  rw [out1_apply, RefRow.overMagnitude_apply _ y j fun j => by
    rw [(ref_row hX hW y j).1]; exact soft_nonneg (num_logits hX hW y) _]
  rw [(ref_row hX hW y j).1, (ref_row hX hW y 0).1, (ref_row hX hW y 1).1, h0, h1]
  match j with
  | 0 => rw [h0]; rfl
  | 1 => rw [h1]; rfl

end numbers

end Cert.Proof.Values

end
-- ==== Proof.Algebraic.lean ====
/-
  THE EQUALITY OF THE RESULTS over the extended reals, from the two runs and `Values`.
-/
module

public import proofs.«01_k».proof.Defs
public import proofs.«01_k».proof.Proof.Gen.Pre_finite
public import proofs.«01_k».proof.Proof.Gen.ReferenceIdeal.Run
public import proofs.«01_k».proof.Proof.Main
public import proofs.«01_k».proof.Proof.Values

@[expose] public section

noncomputable section

namespace Cert.Proof.Algebraic

open Idealize.ShloMosaic Idealize.ShloMosaic.TcCoe Idealize.SL.Sem
open Cert.KernelIdeal (nD τ sig)
open Cert.Proof.Run Cert.Proof.Finite Cert.Proof.Values

/-- The kernel's operand is the reshape of the first argument. -/
theorem XV_eq (m : (ℓ : Loc nD τ sig) → Buf (Elt Ideal) ℓ) (c : Dev nD) :
    XV m c = shapeCast Cert.KernelIdeal.S8192x4096 (m ((c.tc : Thread nD τ).loc Cert.KernelIdeal.main_arg0))
      Cert.ReferenceIdeal.Gen.shapeCasts_S2x4096x4096_S8192x4096 := by
  show StableHlo.after Cert.KernelIdeal.Gen.hostOps0 (fun b => m (c, b)) (Proc.devRef .tc Cert.KernelIdeal.main_v0) = _
  after_results <;> rfl

/-- Under the precondition the kernel's three results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => out0 (F := Ideal) (XV m c) (WV m c), fun c => out1 (F := Ideal) (XV m c) (WV m c),
    fun c => out2 (F := Ideal) (XV m c) (WV m c), ?_, ?_⟩
  · exact (θ_run (Cert.KernelIdeal.defs (F := Ideal)) _ _).mono
      (fun _ h c => ⟨(h.1 c).1, (h.1 c).2.1, (h.1 c).2.2.1,
        (h.1 c).2.2.2.1.trans (Cert.KernelIdeal.Gen.V_main_arg0 (F := Ideal) m c),
        (h.1 c).2.2.2.2.trans (Cert.KernelIdeal.Gen.V_main_arg1 (F := Ideal) m c)⟩)
      (run_main (F := Ideal) m g)
  · refine (θ_run (Cert.ReferenceIdeal.defs (F := Ideal)) _ _).mono (fun r h c => ?_)
      (Cert.ReferenceIdeal.Value.run (F := Ideal) m' g')
    obtain ⟨h0, h1, h2, h3, h4⟩ := h c
    obtain ⟨hX, hW⟩ := num_of_pre _ _ (hpre c)
    have hX' : ∀ i, Num (XV m c i) := fun i => (congrArg Num (congrFun (XV_eq m c) i)).mpr (hX _)
    have hW' : ∀ i, Num (WV m c i) := fun i => (congrArg Num (congrFun (Cert.KernelIdeal.Gen.V_main_arg1 (F := Ideal) m c) i)).mpr (hW i)
    have eX := (XV_eq m c).trans (congrArg (fun A => shapeCast Cert.KernelIdeal.S8192x4096 A
      Cert.ReferenceIdeal.Gen.shapeCasts_S2x4096x4096_S8192x4096) (hagree c).1.symm)
    have eW := (Cert.KernelIdeal.Gen.V_main_arg1 (F := Ideal) m c).trans (hagree c).2.symm
    have e0 := congrArg₂ refOut0 eX eW
    refine ⟨h0.trans ?_, h1.trans ?_, h2.trans ?_, h3, h4⟩
    · exact (e0.symm.trans (out0_eq (X := XV m c) (W := WV m c)))
    · exact (congrArg (fun A => RefRow.overMagnitude (RefRow.greatest A).1) e0).symm.trans (out1_eq hX' hW')
    · exact (congrArg (fun A => (RefRow.greatest A).2) e0).symm.trans (out2_eq hX' hW')

end Cert.Proof.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic

@[expose] public section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    Frames.frame_kernel, Frames.frame_kernelIdeal, fun m ρ _ => Frames.frame_kernelIdeal m ρ trivial,
    Frames.frame_referenceIdeal, fun m ρ _ => Frames.frame_referenceIdeal m ρ trivial, trivial,
    Algebraic.algebraic⟩

end Cert.Proof
